-- ==== Defs.lean ====
def Pre_Outputs (m : (ℓ : Loc Cert.Outputs.nD Cert.Outputs.τ Cert.Outputs.sig) → Buf (Elt Bits) ℓ) : Prop :=
  True

def Pre_OutputsIdeal (m : (ℓ : Loc Cert.OutputsIdeal.nD Cert.OutputsIdeal.τ Cert.OutputsIdeal.sig) → Buf (Elt Ideal) ℓ) : Prop :=
  True

def Pre_OutputsRefIdeal (m : (ℓ : Loc Cert.OutputsRefIdeal.nD Cert.OutputsRefIdeal.τ Cert.OutputsRefIdeal.sig) → Buf (Elt Ideal) ℓ) : Prop :=
  True

def Pre_Tables (m : (ℓ : Loc Cert.Tables.nD Cert.Tables.τ Cert.Tables.sig) → Buf (Elt Bits) ℓ) : Prop :=
  True

def Pre_TablesIdeal (m : (ℓ : Loc Cert.TablesIdeal.nD Cert.TablesIdeal.τ Cert.TablesIdeal.sig) → Buf (Elt Ideal) ℓ) : Prop :=
  True

def Pre_TablesRefIdeal (m : (ℓ : Loc Cert.TablesRefIdeal.nD Cert.TablesRefIdeal.τ Cert.TablesRefIdeal.sig) → Buf (Elt Ideal) ℓ) : Prop :=
  True

def quiescent_Outputs [hOutputs : Cert.Outputs.Facts] : Prop :=
  ∀ (m : (ℓ : Loc Cert.Outputs.nD Cert.Outputs.τ Cert.Outputs.sig) → Buf (Elt Bits) ℓ) (g : Dev Cert.Outputs.nD → PrngReg), Pre_Outputs m →
    θ_run (Cert.Outputs.defs (F := Bits)) (onTc (τ := Cert.Outputs.τ) (Cert.Outputs.main (F := Bits))) ⟨m, fun _ => 0, g⟩ (fun r => (∀ c : Dev Cert.Outputs.nD,
      r.2.mem ((c.tc : Thread Cert.Outputs.nD Cert.Outputs.τ).loc Cert.Outputs.main_arg0) = m ((c.tc : Thread Cert.Outputs.nD Cert.Outputs.τ).loc Cert.Outputs.main_arg0))
      ∧ r.2.sem = fun _ => 0)

def quiescent_OutputsIdeal [hOutputsIdeal : Cert.OutputsIdeal.Facts] : Prop :=
  ∀ (m : (ℓ : Loc Cert.OutputsIdeal.nD Cert.OutputsIdeal.τ Cert.OutputsIdeal.sig) → Buf (Elt Ideal) ℓ) (g : Dev Cert.OutputsIdeal.nD → PrngReg), Pre_OutputsIdeal m →
    θ_run (Cert.OutputsIdeal.defs (F := Ideal)) (onTc (τ := Cert.OutputsIdeal.τ) (Cert.OutputsIdeal.main (F := Ideal))) ⟨m, fun _ => 0, g⟩ (fun r => (∀ c : Dev Cert.OutputsIdeal.nD,
      r.2.mem ((c.tc : Thread Cert.OutputsIdeal.nD Cert.OutputsIdeal.τ).loc Cert.OutputsIdeal.main_arg0) = m ((c.tc : Thread Cert.OutputsIdeal.nD Cert.OutputsIdeal.τ).loc Cert.OutputsIdeal.main_arg0))
      ∧ r.2.sem = fun _ => 0)

def quiescent_OutputsRefIdeal [hOutputsRefIdeal : Cert.OutputsRefIdeal.Facts] : Prop :=
  ∀ (m : (ℓ : Loc Cert.OutputsRefIdeal.nD Cert.OutputsRefIdeal.τ Cert.OutputsRefIdeal.sig) → Buf (Elt Ideal) ℓ) (g : Dev Cert.OutputsRefIdeal.nD → PrngReg), Pre_OutputsRefIdeal m →
    θ_run (Cert.OutputsRefIdeal.defs (F := Ideal)) (onTc (τ := Cert.OutputsRefIdeal.τ) (Cert.OutputsRefIdeal.main (F := Ideal))) ⟨m, fun _ => 0, g⟩ (fun r => (∀ c : Dev Cert.OutputsRefIdeal.nD,
      r.2.mem ((c.tc : Thread Cert.OutputsRefIdeal.nD Cert.OutputsRefIdeal.τ).loc Cert.OutputsRefIdeal.main_arg0) = m ((c.tc : Thread Cert.OutputsRefIdeal.nD Cert.OutputsRefIdeal.τ).loc Cert.OutputsRefIdeal.main_arg0))
      ∧ r.2.sem = fun _ => 0)

def quiescent_Tables [hTables : Cert.Tables.Facts] : Prop :=
  ∀ (m : (ℓ : Loc Cert.Tables.nD Cert.Tables.τ Cert.Tables.sig) → Buf (Elt Bits) ℓ) (g : Dev Cert.Tables.nD → PrngReg), Pre_Tables m →
    θ_run (Cert.Tables.defs (F := Bits)) (onTc (τ := Cert.Tables.τ) (Cert.Tables.main (F := Bits))) ⟨m, fun _ => 0, g⟩ (fun r => (∀ c : Dev Cert.Tables.nD,
      r.2.mem ((c.tc : Thread Cert.Tables.nD Cert.Tables.τ).loc Cert.Tables.main_arg0) = m ((c.tc : Thread Cert.Tables.nD Cert.Tables.τ).loc Cert.Tables.main_arg0)
      ∧ r.2.mem ((c.tc : Thread Cert.Tables.nD Cert.Tables.τ).loc Cert.Tables.main_arg1) = m ((c.tc : Thread Cert.Tables.nD Cert.Tables.τ).loc Cert.Tables.main_arg1)
      ∧ r.2.mem ((c.tc : Thread Cert.Tables.nD Cert.Tables.τ).loc Cert.Tables.main_arg2) = m ((c.tc : Thread Cert.Tables.nD Cert.Tables.τ).loc Cert.Tables.main_arg2)
      ∧ r.2.mem ((c.tc : Thread Cert.Tables.nD Cert.Tables.τ).loc Cert.Tables.main_arg3) = m ((c.tc : Thread Cert.Tables.nD Cert.Tables.τ).loc Cert.Tables.main_arg3))
      ∧ r.2.sem = fun _ => 0)

def quiescent_TablesIdeal [hTablesIdeal : Cert.TablesIdeal.Facts] : Prop :=
  ∀ (m : (ℓ : Loc Cert.TablesIdeal.nD Cert.TablesIdeal.τ Cert.TablesIdeal.sig) → Buf (Elt Ideal) ℓ) (g : Dev Cert.TablesIdeal.nD → PrngReg), Pre_TablesIdeal m →
    θ_run (Cert.TablesIdeal.defs (F := Ideal)) (onTc (τ := Cert.TablesIdeal.τ) (Cert.TablesIdeal.main (F := Ideal))) ⟨m, fun _ => 0, g⟩ (fun r => (∀ c : Dev Cert.TablesIdeal.nD,
      r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
      ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1)
      ∧ r.2.mem ((c.tc : Thread Cert.TablesIdeal.nD Cert.TablesIdeal.τ).loc Cert.TablesIdeal.main_arg2) = m ((c.tc : Thread Cert.TablesIdeal.nD Cert.TablesIdeal.τ).loc Cert.TablesIdeal.main_arg2)
      ∧ r.2.mem ((c.tc : Thread Cert.TablesIdeal.nD Cert.TablesIdeal.τ).loc Cert.TablesIdeal.main_arg3) = m ((c.tc : Thread Cert.TablesIdeal.nD Cert.TablesIdeal.τ).loc Cert.TablesIdeal.main_arg3))
      ∧ r.2.sem = fun _ => 0)

def quiescent_TablesRefIdeal [hTablesRefIdeal : Cert.TablesRefIdeal.Facts] : Prop :=
  ∀ (m : (ℓ : Loc Cert.TablesRefIdeal.nD Cert.TablesRefIdeal.τ Cert.TablesRefIdeal.sig) → Buf (Elt Ideal) ℓ) (g : Dev Cert.TablesRefIdeal.nD → PrngReg), Pre_TablesRefIdeal m →
    θ_run (Cert.TablesRefIdeal.defs (F := Ideal)) (onTc (τ := Cert.TablesRefIdeal.τ) (Cert.TablesRefIdeal.main (F := Ideal))) ⟨m, fun _ => 0, g⟩ (fun r => (∀ c : Dev Cert.TablesRefIdeal.nD,
      r.2.mem ((c.tc : Thread Cert.TablesRefIdeal.nD Cert.TablesRefIdeal.τ).loc Cert.TablesRefIdeal.main_arg0) = m ((c.tc : Thread Cert.TablesRefIdeal.nD Cert.TablesRefIdeal.τ).loc Cert.TablesRefIdeal.main_arg0)
      ∧ r.2.mem ((c.tc : Thread Cert.TablesRefIdeal.nD Cert.TablesRefIdeal.τ).loc Cert.TablesRefIdeal.main_arg1) = m ((c.tc : Thread Cert.TablesRefIdeal.nD Cert.TablesRefIdeal.τ).loc Cert.TablesRefIdeal.main_arg1)
      ∧ r.2.mem ((c.tc : Thread Cert.TablesRefIdeal.nD Cert.TablesRefIdeal.τ).loc Cert.TablesRefIdeal.main_arg2) = m ((c.tc : Thread Cert.TablesRefIdeal.nD Cert.TablesRefIdeal.τ).loc Cert.TablesRefIdeal.main_arg2)
      ∧ r.2.mem ((c.tc : Thread Cert.TablesRefIdeal.nD Cert.TablesRefIdeal.τ).loc Cert.TablesRefIdeal.main_arg3) = m ((c.tc : Thread Cert.TablesRefIdeal.nD Cert.TablesRefIdeal.τ).loc Cert.TablesRefIdeal.main_arg3))
      ∧ r.2.sem = fun _ => 0)

def preserves_Outputs_OutputsIdeal : Prop :=
  True

def algebraic_OutputsIdeal_OutputsRefIdeal [hOutputsIdeal : Cert.OutputsIdeal.Facts] [hOutputsRefIdeal : Cert.OutputsRefIdeal.Facts] : Prop :=
  ∀ (m : (ℓ : Loc Cert.OutputsIdeal.nD Cert.OutputsIdeal.τ Cert.OutputsIdeal.sig) → Buf (Elt Ideal) ℓ) (g : Dev Cert.OutputsIdeal.nD → PrngReg)
    (m' : (ℓ : Loc Cert.OutputsRefIdeal.nD Cert.OutputsRefIdeal.τ Cert.OutputsRefIdeal.sig) → Buf (Elt Ideal) ℓ) (g' : Dev Cert.OutputsRefIdeal.nD → PrngReg), Pre_OutputsIdeal m →
    (∀ c : Dev Cert.OutputsIdeal.nD,
      m' ((c.tc : Thread Cert.OutputsRefIdeal.nD Cert.OutputsRefIdeal.τ).loc Cert.OutputsRefIdeal.main_arg0) = m ((c.tc : Thread Cert.OutputsIdeal.nD Cert.OutputsIdeal.τ).loc Cert.OutputsIdeal.main_arg0)) →
    ∃ (v0 : (c : Dev Cert.OutputsIdeal.nD) → Buf (Elt Ideal) ((c.tc : Thread Cert.OutputsIdeal.nD Cert.OutputsIdeal.τ).loc Cert.OutputsIdeal.main_v1_1)) (v1 : (c : Dev Cert.OutputsIdeal.nD) → Buf (Elt Ideal) ((c.tc : Thread Cert.OutputsIdeal.nD Cert.OutputsIdeal.τ).loc Cert.OutputsIdeal.main_v3)),
      θ_run (Cert.OutputsIdeal.defs (F := Ideal)) (onTc (τ := Cert.OutputsIdeal.τ) (Cert.OutputsIdeal.main (F := Ideal))) ⟨m, fun _ => 0, g⟩ (fun r => ∀ c : Dev Cert.OutputsIdeal.nD,
          r.2.mem ((c.tc : Thread Cert.OutputsIdeal.nD Cert.OutputsIdeal.τ).loc Cert.OutputsIdeal.main_v1_1) = v0 c
          ∧ r.2.mem ((c.tc : Thread Cert.OutputsIdeal.nD Cert.OutputsIdeal.τ).loc Cert.OutputsIdeal.main_v3) = v1 c
          ∧ r.2.mem ((c.tc : Thread Cert.OutputsIdeal.nD Cert.OutputsIdeal.τ).loc Cert.OutputsIdeal.main_arg0) = m ((c.tc : Thread Cert.OutputsIdeal.nD Cert.OutputsIdeal.τ).loc Cert.OutputsIdeal.main_arg0))
      ∧ θ_run (Cert.OutputsRefIdeal.defs (F := Ideal)) (onTc (τ := Cert.OutputsRefIdeal.τ) (Cert.OutputsRefIdeal.main (F := Ideal))) ⟨m', fun _ => 0, g'⟩ (fun r => ∀ c : Dev Cert.OutputsRefIdeal.nD,
          r.2.mem ((c.tc : Thread Cert.OutputsRefIdeal.nD Cert.OutputsRefIdeal.τ).loc Cert.OutputsRefIdeal.main_v6) = v0 c
          ∧ r.2.mem ((c.tc : Thread Cert.OutputsRefIdeal.nD Cert.OutputsRefIdeal.τ).loc Cert.OutputsRefIdeal.main_v4) = v1 c
          ∧ r.2.mem ((c.tc : Thread Cert.OutputsRefIdeal.nD Cert.OutputsRefIdeal.τ).loc Cert.OutputsRefIdeal.main_arg0) = m' ((c.tc : Thread Cert.OutputsRefIdeal.nD Cert.OutputsRefIdeal.τ).loc Cert.OutputsRefIdeal.main_arg0))

def preserves_Tables_TablesIdeal : Prop :=
  True

def algebraic_TablesIdeal_TablesRefIdeal [hTablesIdeal : Cert.TablesIdeal.Facts] [hTablesRefIdeal : Cert.TablesRefIdeal.Facts] : Prop :=
  ∀ (m : (ℓ : Loc Cert.TablesIdeal.nD Cert.TablesIdeal.τ Cert.TablesIdeal.sig) → Buf (Elt Ideal) ℓ) (g : Dev Cert.TablesIdeal.nD → PrngReg)
    (m' : (ℓ : Loc Cert.TablesRefIdeal.nD Cert.TablesRefIdeal.τ Cert.TablesRefIdeal.sig) → Buf (Elt Ideal) ℓ) (g' : Dev Cert.TablesRefIdeal.nD → PrngReg), Pre_TablesIdeal m →
    (∀ c : Dev Cert.TablesIdeal.nD,
      m' ((c.tc : Thread Cert.TablesRefIdeal.nD Cert.TablesRefIdeal.τ).loc Cert.TablesRefIdeal.main_arg0) = m ((c.tc : Thread Cert.TablesIdeal.nD Cert.TablesIdeal.τ).loc Cert.TablesIdeal.main_arg0)
      ∧ m' ((c.tc : Thread Cert.TablesRefIdeal.nD Cert.TablesRefIdeal.τ).loc Cert.TablesRefIdeal.main_arg1) = m ((c.tc : Thread Cert.TablesIdeal.nD Cert.TablesIdeal.τ).loc Cert.TablesIdeal.main_arg1)
      ∧ m' ((c.tc : Thread Cert.TablesRefIdeal.nD Cert.TablesRefIdeal.τ).loc Cert.TablesRefIdeal.main_arg2) = m ((c.tc : Thread Cert.TablesIdeal.nD Cert.TablesIdeal.τ).loc Cert.TablesIdeal.main_arg2)
      ∧ m' ((c.tc : Thread Cert.TablesRefIdeal.nD Cert.TablesRefIdeal.τ).loc Cert.TablesRefIdeal.main_arg3) = m ((c.tc : Thread Cert.TablesIdeal.nD Cert.TablesIdeal.τ).loc Cert.TablesIdeal.main_arg3)) →
    ∃ (v0 : (c : Dev Cert.TablesIdeal.nD) → Buf (Elt Ideal) ((c.tc : Thread Cert.TablesIdeal.nD Cert.TablesIdeal.τ).loc Cert.TablesIdeal.main_v4_0)) (v1 : (c : Dev Cert.TablesIdeal.nD) → Buf (Elt Ideal) ((c.tc : Thread Cert.TablesIdeal.nD Cert.TablesIdeal.τ).loc Cert.TablesIdeal.main_v4_1)) (v2 : (c : Dev Cert.TablesIdeal.nD) → Buf (Elt Ideal) ((c.tc : Thread Cert.TablesIdeal.nD Cert.TablesIdeal.τ).loc Cert.TablesIdeal.main_v4_2)),
      θ_run (Cert.TablesIdeal.defs (F := Ideal)) (onTc (τ := Cert.TablesIdeal.τ) (Cert.TablesIdeal.main (F := Ideal))) ⟨m, fun _ => 0, g⟩ (fun r => ∀ c : Dev Cert.TablesIdeal.nD,
          r.2.mem ((c.tc : Thread Cert.TablesIdeal.nD Cert.TablesIdeal.τ).loc Cert.TablesIdeal.main_v4_0) = v0 c
          ∧ r.2.mem ((c.tc : Thread Cert.TablesIdeal.nD Cert.TablesIdeal.τ).loc Cert.TablesIdeal.main_v4_1) = v1 c
          ∧ r.2.mem ((c.tc : Thread Cert.TablesIdeal.nD Cert.TablesIdeal.τ).loc Cert.TablesIdeal.main_v4_2) = v2 c
          ∧ r.2.mem ((c.tc : Thread Cert.TablesIdeal.nD Cert.TablesIdeal.τ).loc Cert.TablesIdeal.main_arg0) = m ((c.tc : Thread Cert.TablesIdeal.nD Cert.TablesIdeal.τ).loc Cert.TablesIdeal.main_arg0)
          ∧ r.2.mem ((c.tc : Thread Cert.TablesIdeal.nD Cert.TablesIdeal.τ).loc Cert.TablesIdeal.main_arg1) = m ((c.tc : Thread Cert.TablesIdeal.nD Cert.TablesIdeal.τ).loc Cert.TablesIdeal.main_arg1)
          ∧ r.2.mem ((c.tc : Thread Cert.TablesIdeal.nD Cert.TablesIdeal.τ).loc Cert.TablesIdeal.main_arg2) = m ((c.tc : Thread Cert.TablesIdeal.nD Cert.TablesIdeal.τ).loc Cert.TablesIdeal.main_arg2)
          ∧ r.2.mem ((c.tc : Thread Cert.TablesIdeal.nD Cert.TablesIdeal.τ).loc Cert.TablesIdeal.main_arg3) = m ((c.tc : Thread Cert.TablesIdeal.nD Cert.TablesIdeal.τ).loc Cert.TablesIdeal.main_arg3))
      ∧ θ_run (Cert.TablesRefIdeal.defs (F := Ideal)) (onTc (τ := Cert.TablesRefIdeal.τ) (Cert.TablesRefIdeal.main (F := Ideal))) ⟨m', fun _ => 0, g'⟩ (fun r => ∀ c : Dev Cert.TablesRefIdeal.nD,
          r.2.mem ((c.tc : Thread Cert.TablesRefIdeal.nD Cert.TablesRefIdeal.τ).loc Cert.TablesRefIdeal.main_v67_0) = v0 c
          ∧ r.2.mem ((c.tc : Thread Cert.TablesRefIdeal.nD Cert.TablesRefIdeal.τ).loc Cert.TablesRefIdeal.main_v67_1) = v1 c
          ∧ r.2.mem ((c.tc : Thread Cert.TablesRefIdeal.nD Cert.TablesRefIdeal.τ).loc Cert.TablesRefIdeal.main_v64) = v2 c
          ∧ r.2.mem ((c.tc : Thread Cert.TablesRefIdeal.nD Cert.TablesRefIdeal.τ).loc Cert.TablesRefIdeal.main_arg0) = m' ((c.tc : Thread Cert.TablesRefIdeal.nD Cert.TablesRefIdeal.τ).loc Cert.TablesRefIdeal.main_arg0)
          ∧ r.2.mem ((c.tc : Thread Cert.TablesRefIdeal.nD Cert.TablesRefIdeal.τ).loc Cert.TablesRefIdeal.main_arg1) = m' ((c.tc : Thread Cert.TablesRefIdeal.nD Cert.TablesRefIdeal.τ).loc Cert.TablesRefIdeal.main_arg1)
          ∧ r.2.mem ((c.tc : Thread Cert.TablesRefIdeal.nD Cert.TablesRefIdeal.τ).loc Cert.TablesRefIdeal.main_arg2) = m' ((c.tc : Thread Cert.TablesRefIdeal.nD Cert.TablesRefIdeal.τ).loc Cert.TablesRefIdeal.main_arg2)
          ∧ r.2.mem ((c.tc : Thread Cert.TablesRefIdeal.nD Cert.TablesRefIdeal.τ).loc Cert.TablesRefIdeal.main_arg3) = m' ((c.tc : Thread Cert.TablesRefIdeal.nD Cert.TablesRefIdeal.τ).loc Cert.TablesRefIdeal.main_arg3))

def Claim : Prop :=
  ∃ (hOutputs : Cert.Outputs.Facts) (hOutputsIdeal : Cert.OutputsIdeal.Facts) (hOutputsRefIdeal : Cert.OutputsRefIdeal.Facts) (hTables : Cert.Tables.Facts) (hTablesIdeal : Cert.TablesIdeal.Facts) (hTablesRefIdeal : Cert.TablesRefIdeal.Facts),
    quiescent_Outputs (hOutputs := hOutputs)
    ∧ quiescent_OutputsIdeal (hOutputsIdeal := hOutputsIdeal)
    ∧ quiescent_OutputsRefIdeal (hOutputsRefIdeal := hOutputsRefIdeal)
    ∧ quiescent_Tables (hTables := hTables)
    ∧ quiescent_TablesIdeal (hTablesIdeal := hTablesIdeal)
    ∧ quiescent_TablesRefIdeal (hTablesRefIdeal := hTablesRefIdeal)
    ∧ preserves_Outputs_OutputsIdeal
    ∧ algebraic_OutputsIdeal_OutputsRefIdeal (hOutputsIdeal := hOutputsIdeal) (hOutputsRefIdeal := hOutputsRefIdeal)
    ∧ preserves_Tables_TablesIdeal
    ∧ algebraic_TablesIdeal_TablesRefIdeal (hTablesIdeal := hTablesIdeal) (hTablesRefIdeal := hTablesRefIdeal)
-- ==== Outputs.lean ====
abbrev S2883584 : Shape := ⟨1, ![2883584]⟩
abbrev S22528x128 : Shape := ⟨2, ![22528, 128]⟩
abbrev S64x45000 : Shape := ⟨2, ![64, 45000]⟩
abbrev S2x45000 : Shape := ⟨2, ![2, 45000]⟩
abbrev S1024x128 : Shape := ⟨2, ![1024, 128]⟩
abbrev S64x2048 : Shape := ⟨2, ![64, 2048]⟩
abbrev S2x2048 : Shape := ⟨2, ![2, 2048]⟩
abbrev S128x128 : Shape := ⟨2, ![128, 128]⟩
abbrev S64x128 : Shape := ⟨2, ![64, 128]⟩
abbrev S32x128 : Shape := ⟨2, ![32, 128]⟩
abbrev S128 : Shape := ⟨1, ![128]⟩
abbrev S1x128 : Shape := ⟨2, ![1, 128]⟩
abbrev S2x32x45000 : Shape := ⟨3, ![2, 32, 45000]⟩
abbrev S45000x2x32 : Shape := ⟨3, ![45000, 2, 32]⟩

abbrev nBuf : Space → Nat
  | .hbm => 6
  | .vmem => 6
  | .smem => 0
  | _ => 0

abbrev bufTy : (tb : Table) → Fin (tcTables nBuf tb) → BufTy
  | .hbm, ⟨0, _⟩ => ⟨S2883584, .f32⟩
  | .hbm, ⟨1, _⟩ => ⟨S22528x128, .f32⟩
  | .hbm, ⟨2, _⟩ => ⟨S64x45000, .f32⟩
  | .hbm, ⟨3, _⟩ => ⟨S2x45000, .f32⟩
  | .hbm, ⟨4, _⟩ => ⟨S2x32x45000, .f32⟩
  | .hbm, ⟨5, _⟩ => ⟨S45000x2x32, .f32⟩
  | .local _ .vmem, ⟨0, _⟩ => ⟨S1024x128, .f32⟩
  | .local _ .vmem, ⟨1, _⟩ => ⟨S1024x128, .f32⟩
  | .local _ .vmem, ⟨2, _⟩ => ⟨S64x2048, .f32⟩
  | .local _ .vmem, ⟨3, _⟩ => ⟨S64x2048, .f32⟩
  | .local _ .vmem, ⟨4, _⟩ => ⟨S2x2048, .f32⟩
  | .local _ .vmem, ⟨5, _⟩ => ⟨S2x2048, .f32⟩
  | _, _ => ⟨S2883584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutputsRefIdeal.lean ====
abbrev S2883584 : Shape := ⟨1, ![2883584]⟩
abbrev S176x128x2x64 : Shape := ⟨4, ![176, 128, 2, 64]⟩
abbrev S176x2x128x64 : Shape := ⟨4, ![176, 2, 128, 64]⟩
abbrev S45056x64 : Shape := ⟨2, ![45056, 64]⟩
abbrev S45000x64 : Shape := ⟨2, ![45000, 64]⟩
abbrev S45000x2x32 : Shape := ⟨3, ![45000, 2, 32]⟩
abbrev S_ : Shape := ⟨0, ![]⟩
abbrev S45000x2 : Shape := ⟨2, ![45000, 2]⟩
abbrev S2x45000 : Shape := ⟨2, ![2, 45000]⟩

abbrev nBuf : Space → Nat
  | .hbm => 9
  | .vmem => 0
  | .smem => 0
  | _ => 0

abbrev bufTy : (tb : Table) → Fin (tcTables nBuf tb) → BufTy
  | .hbm, ⟨0, _⟩ => ⟨S2883584, .f32⟩
  | .hbm, ⟨1, _⟩ => ⟨S176x128x2x64, .f32⟩
  | .hbm, ⟨2, _⟩ => ⟨S176x2x128x64, .f32⟩
  | .hbm, ⟨3, _⟩ => ⟨S45056x64, .f32⟩
  | .hbm, ⟨4, _⟩ => ⟨S45000x64, .f32⟩
  | .hbm, ⟨5, _⟩ => ⟨S45000x2x32, .f32⟩
  | .hbm, ⟨6, _⟩ => ⟨S_, .f32⟩
  | .hbm, ⟨7, _⟩ => ⟨S45000x2, .f32⟩
  | .hbm, ⟨8, _⟩ => ⟨S2x45000, .f32⟩
  | _, _ => ⟨S2883584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Tables.lean ====
abbrev S2x32x128 : Shape := ⟨3, ![2, 32, 128]⟩
abbrev S131072x128 : Shape := ⟨2, ![131072, 128]⟩
abbrev S131072 : Shape := ⟨1, ![131072]⟩
abbrev S45001 : Shape := ⟨1, ![45001]⟩
abbrev S_ : Shape := ⟨0, ![]⟩
abbrev S45312 : Shape := ⟨1, ![45312]⟩
abbrev S64x128 : Shape := ⟨2, ![64, 128]⟩
abbrev S354x128 : Shape := ⟨2, ![354, 128]⟩
abbrev S1024x128 : Shape := ⟨2, ![1024, 128]⟩
abbrev S65536x128 : Shape := ⟨2, ![65536, 128]⟩
abbrev S1x8192 : Shape := ⟨2, ![1, 8192]⟩
abbrev S8x128 : Shape := ⟨2, ![8, 128]⟩
abbrev S2048x128 : Shape := ⟨2, ![2048, 128]⟩
abbrev S16x128 : Shape := ⟨2, ![16, 128]⟩
abbrev S1x2048 : Shape := ⟨2, ![1, 2048]⟩
abbrev S128x256 : Shape := ⟨2, ![128, 256]⟩
abbrev S8x64 : Shape := ⟨2, ![8, 64]⟩
abbrev S1x64 : Shape := ⟨2, ![1, 64]⟩
abbrev S64x64 : Shape := ⟨2, ![64, 64]⟩
abbrev S64 : Shape := ⟨1, ![64]⟩
abbrev S64x256 : Shape := ⟨2, ![64, 256]⟩
abbrev S1x128 : Shape := ⟨2, ![1, 128]⟩
abbrev S1x354x128 : Shape := ⟨3, ![1, 354, 128]⟩
abbrev S1 : Shape := ⟨1, ![1]⟩
abbrev S1x1x1 : Shape := ⟨3, ![1, 1, 1]⟩
abbrev S96x128 : Shape := ⟨2, ![96, 128]⟩
abbrev S128x128 : Shape := ⟨2, ![128, 128]⟩
abbrev S128x128x1 : Shape := ⟨3, ![128, 128, 1]⟩
abbrev S128 : Shape := ⟨1, ![128]⟩

abbrev nBuf : Space → Nat
  | .hbm => 13
  | .vmem => 16
  | .smem => 0
  | _ => 0

abbrev bufTy : (tb : Table) → Fin (tcTables nBuf tb) → BufTy
  | .hbm, ⟨0, _⟩ => ⟨S2x32x128, .bf16⟩
  | .hbm, ⟨1, _⟩ => ⟨S131072x128, .fp8e4m3⟩
  | .hbm, ⟨2, _⟩ => ⟨S131072, .f32⟩
  | .hbm, ⟨3, _⟩ => ⟨S45001, .i32⟩
  | .hbm, ⟨4, _⟩ => ⟨S_, .i32⟩
  | .hbm, ⟨5, _⟩ => ⟨S_, .i32⟩
  | .hbm, ⟨6, _⟩ => ⟨S45312, .i32⟩
  | .hbm, ⟨7, _⟩ => ⟨S64x128, .bf16⟩
  | .hbm, ⟨8, _⟩ => ⟨S354x128, .i32⟩
  | .hbm, ⟨9, _⟩ => ⟨S1024x128, .f32⟩
  | .hbm, ⟨10, _⟩ => ⟨S65536x128, .f32⟩
  | .hbm, ⟨11, _⟩ => ⟨S1x8192, .i32⟩
  | .hbm, ⟨12, _⟩ => ⟨S8x128, .i32⟩
  | .local _ .vmem, ⟨0, _⟩ => ⟨S2048x128, .fp8e4m3⟩
  | .local _ .vmem, ⟨1, _⟩ => ⟨S2048x128, .fp8e4m3⟩
  | .local _ .vmem, ⟨2, _⟩ => ⟨S2048x128, .fp8e4m3⟩
  | .local _ .vmem, ⟨3, _⟩ => ⟨S2048x128, .fp8e4m3⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S64x128, .bf16⟩
  | .local _ .vmem, ⟨9, _⟩ => ⟨S354x128, .i32⟩
  | .local _ .vmem, ⟨10, _⟩ => ⟨S2048x128, .f32⟩
  | .local _ .vmem, ⟨11, _⟩ => ⟨S2048x128, .f32⟩
  | .local _ .vmem, ⟨12, _⟩ => ⟨S1x2048, .i32⟩
  | .local _ .vmem, ⟨13, _⟩ => ⟨S1x2048, .i32⟩
  | .local _ .vmem, ⟨14, _⟩ => ⟨S8x128, .i32⟩
  | .local _ .vmem, ⟨15, _⟩ => ⟨S128x256, .bf16⟩
  | _, _ => ⟨S2x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c32_i32 : BitVec 32 := 32#32
  let v2 : BitVec 32 := Scalar.addi v1 c32_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c32_i32 : BitVec 32 := 32#32
  let v2 : BitVec 32 := Scalar.addi v1 c32_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S354x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== TablesRefIdeal.lean ====
abbrev S2x32x128 : Shape := ⟨3, ![2, 32, 128]⟩
abbrev S131072x128 : Shape := ⟨2, ![131072, 128]⟩
abbrev S131072 : Shape := ⟨1, ![131072]⟩
abbrev S45001 : Shape := ⟨1, ![45001]⟩
abbrev S64x128 : Shape := ⟨2, ![64, 128]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S45001x1 : Shape := ⟨2, ![45001, 1]⟩
abbrev S1x128 : Shape := ⟨2, ![1, 128]⟩
abbrev S45001x128 : Shape := ⟨2, ![45001, 128]⟩
abbrev S8 : Shape := ⟨1, ![8]⟩
abbrev S8x1 : Shape := ⟨2, ![8, 1]⟩
abbrev S8x128 : Shape := ⟨2, ![8, 128]⟩
abbrev S131072x1 : Shape := ⟨2, ![131072, 1]⟩
abbrev S65536x128 : Shape := ⟨2, ![65536, 128]⟩
abbrev S1x8192 : Shape := ⟨2, ![1, 8192]⟩
abbrev S131072x64 : Shape := ⟨2, ![131072, 64]⟩
abbrev S65536x64 : Shape := ⟨2, ![65536, 64]⟩
abbrev S16x8192 : Shape := ⟨2, ![16, 8192]⟩
abbrev S131072x32 : Shape := ⟨2, ![131072, 32]⟩
abbrev S8192 : Shape := ⟨1, ![8192]⟩

abbrev nBuf : Space → Nat
  | .hbm => 99
  | .vmem => 6
  | .smem => 0
  | _ => 0

abbrev bufTy : (tb : Table) → Fin (tcTables nBuf tb) → BufTy
  | .hbm, ⟨0, _⟩ => ⟨S2x32x128, .bf16⟩
  | .hbm, ⟨1, _⟩ => ⟨S131072x128, .fp8e4m3⟩
  | .hbm, ⟨2, _⟩ => ⟨S131072, .f32⟩
  | .hbm, ⟨3, _⟩ => ⟨S45001, .i32⟩
  | .hbm, ⟨4, _⟩ => ⟨S64x128, .bf16⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S64, .f32⟩
  | .hbm, ⟨9, _⟩ => ⟨S64, .i32⟩
  | .hbm, ⟨10, _⟩ => ⟨S64x1, .f32⟩
  | .hbm, ⟨11, _⟩ => ⟨S1x64, .f32⟩
  | .hbm, ⟨12, _⟩ => ⟨S64x64, .f32⟩
  | .hbm, ⟨13, _⟩ => ⟨S64x64, .f32⟩
  | .hbm, ⟨14, _⟩ => ⟨S64x64, .i1⟩
  | .hbm, ⟨15, _⟩ => ⟨S64x1, .f32⟩
  | .hbm, ⟨16, _⟩ => ⟨S1x64, .f32⟩
  | .hbm, ⟨17, _⟩ => ⟨S64x64, .f32⟩
  | .hbm, ⟨18, _⟩ => ⟨S64x64, .f32⟩
  | .hbm, ⟨19, _⟩ => ⟨S64x64, .i1⟩
  | .hbm, ⟨20, _⟩ => ⟨S64x1, .i32⟩
  | .hbm, ⟨21, _⟩ => ⟨S1x64, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S_, .i32⟩
  | .hbm, ⟨29, _⟩ => ⟨S64, .i32⟩
  | .hbm, ⟨30, _⟩ => ⟨S64x1, .i32⟩
  | .hbm, ⟨31, _⟩ => ⟨S1x64, .i32⟩
  | .hbm, ⟨32, _⟩ => ⟨S64x64, .i32⟩
  | .hbm, ⟨33, _⟩ => ⟨S64x64, .i32⟩
  | .hbm, ⟨34, _⟩ => ⟨S64x64, .i1⟩
  | .hbm, ⟨35, _⟩ => ⟨S64x1, .i32⟩
  | .hbm, ⟨36, _⟩ => ⟨S_, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64, .i32⟩
  | .hbm, ⟨43, _⟩ => ⟨S128, .i32⟩
  | .hbm, ⟨44, _⟩ => ⟨S45001x1, .i32⟩
  | .hbm, ⟨45, _⟩ => ⟨S1x128, .i32⟩
  | .hbm, ⟨46, _⟩ => ⟨S_, .i32⟩
  | .hbm, ⟨47, _⟩ => ⟨S1x128, .i32⟩
  | .hbm, ⟨48, _⟩ => ⟨S1x128, .i32⟩
  | .hbm, ⟨49, _⟩ => ⟨S45001x128, .i32⟩
  | .hbm, ⟨50, _⟩ => ⟨S45001x128, .i32⟩
  | .hbm, ⟨51, _⟩ => ⟨S45001x128, .i1⟩
  | .hbm, ⟨52, _⟩ => ⟨S45001x128, .i32⟩
  | .hbm, ⟨53, _⟩ => ⟨S_, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S_, .i32⟩
  | .hbm, ⟨68, _⟩ => ⟨S128, .i32⟩
  | .hbm, ⟨69, _⟩ => ⟨S128, .i1⟩
  | .hbm, ⟨70, _⟩ => ⟨S128, .i1⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S_, .i32⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S128, .i32⟩
  | .hbm, ⟨81, _⟩ => ⟨S_, .i32⟩
  | .hbm, ⟨82, _⟩ => ⟨S_, .i32⟩
  | .hbm, ⟨83, _⟩ => ⟨S128, .i32⟩
  | .hbm, ⟨84, _⟩ => ⟨S8, .i32⟩
  | .hbm, ⟨85, _⟩ => ⟨S8x1, .i32⟩
  | .hbm, ⟨86, _⟩ => ⟨S_, .i32⟩
  | .hbm, ⟨87, _⟩ => ⟨S8x1, .i32⟩
  | .hbm, ⟨88, _⟩ => ⟨S8x1, .i1⟩
  | .hbm, ⟨89, _⟩ => ⟨S1x128, .i32⟩
  | .hbm, ⟨90, _⟩ => ⟨S1x128, .i32⟩
  | .hbm, ⟨91, _⟩ => ⟨S8x128, .i1⟩
  | .hbm, ⟨92, _⟩ => ⟨S8x128, .i32⟩
  | .hbm, ⟨93, _⟩ => ⟨S8x128, .i32⟩
  | .hbm, ⟨94, _⟩ => ⟨S8x128, .i32⟩
  | .hbm, ⟨95, _⟩ => ⟨S131072x1, .f32⟩
  | .hbm, ⟨96, _⟩ => ⟨S64x1, .i32⟩
  | .hbm, ⟨97, _⟩ => ⟨S65536x128, .f32⟩
  | .hbm, ⟨98, _⟩ => ⟨S1x8192, .i32⟩
  | .local _ .vmem, ⟨0, _⟩ => ⟨S131072x128, .fp8e4m3⟩
  | .local _ .vmem, ⟨1, _⟩ => ⟨S131072x1, .f32⟩
  | .local _ .vmem, ⟨2, _⟩ => ⟨S64x128, .bf16⟩
  | .local _ .vmem, ⟨3, _⟩ => ⟨S64x1, .i32⟩
  | .local _ .vmem, ⟨4, _⟩ => ⟨S65536x128, .f32⟩
  | .local _ .vmem, ⟨5, _⟩ => ⟨S1x8192, .i32⟩
  | _, _ => ⟨S2x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_3 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_c_11 : Ref sig .tc := ⟨.hbm, 75, rfl⟩
abbrev main_call1_v0 : Ref sig .tc := ⟨.hbm, 76, rfl⟩
abbrev main_call1_v1 : Ref sig .tc := ⟨.hbm, 77, rfl⟩
abbrev main_v55 : Ref sig .tc := ⟨.hbm, 78, rfl⟩
abbrev main_call2_v0 : Ref sig .tc := ⟨.hbm, 79, rfl⟩
abbrev main_v56 : Ref sig .tc := ⟨.hbm, 80, rfl⟩
abbrev main_c_12 : Ref sig .tc := ⟨.hbm, 81, rfl⟩
abbrev main_call3_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67_0 : Ref sig .tc := ⟨.hbm, 97, rfl⟩
abbrev main_v67_1 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S131072x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S131072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S65536x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Outs.Spec.lean ====
/-
  What the call that forms the results returns: each document's 64 numbers stand in one flat array, and the two
  results are those numbers and their sums over 32 of them at a time.
-/
module

public import Idealize.ShloMosaic.PureOps
public import Idealize.ShloMosaic.Lib.Pointwise

@[expose] public section
noncomputable section
namespace Cert.Outs
open Idealize.ShloMosaic

/-- The flat array, by position. -/
abbrev Flat := Vec Ideal (⟨1, ![2883584]⟩ : Shape) .f32

/-- Where number `j` of document `d` stands: documents in pairs of groups of 128, the two groups of a pair in the
    two halves of a row of 128. -/
def position (d j : Nat) : Nat := (d / 256 * 128 + d % 128) * 128 + (d / 128 % 2 * 64 + j)

theorem position_lt (d j : Nat) (hd : d < 45056) (hj : j < 64) : position d j < 2883584 := by
  unfold position
  omega

/-- Number `j` of document `d`. -/
def entry (flat : Flat) (d : Fin 45000) (j : Fin 64) : EReal :=
  flat (ix1 ⟨position d.val j.val, position_lt d.val j.val (by omega) j.isLt⟩)

/-- Number `n` of query `k` (its best score against document `d`), two queries of 32 each. -/
def at2 (k : Fin 2) (n : Fin 32) : Fin 64 := ⟨k.val * 32 + n.val, by omega⟩

/-- The first result: document `d`'s score for query `k`. -/
def scores (flat : Flat) : Vec Ideal (⟨2, ![2, 45000]⟩ : Shape) .f32 := fun x => ∑ n : Fin 32, entry flat (x 1) (at2 (x 0) n)

/-- The second result: the maxima document by document. -/
def maxima (flat : Flat) : Vec Ideal (⟨3, ![45000, 2, 32]⟩ : Shape) .f32 := fun x => entry flat (x 0) (at2 (x 1) (x 2))

end Cert.Outs
end
-- ==== Proof.Outs.Block.lean ====
/-
  A grid point's blocks of the two results: its sixteen groups of 128 documents are the groups of one function of the
  block read.
-/
module

public import proofs.«01_k».proof.Proof.Outs.Spec
public import proofs.«01_k».proof.Proof.Gen.OutputsIdeal.Frame
public import Idealize.ShloMosaic.Lib.Pointwise.Tactic
public import Idealize.ShloMosaic.Lib.Pointwise.Reduce
public import Idealize.ShloMosaic.Lib.Pipeline.Value

@[expose] public section
noncomputable section
namespace Cert.Outs
open Idealize.ShloMosaic Idealize.SL.Sem Cert.OutputsIdeal Cert.OutputsIdeal.Gen

/-- Number `j` of the document in lane `c` of a block of 2048 documents, in the 1024 rows the block is read from. -/
def cell (x : Vec Ideal S1024x128 .f32) (c : Fin 2048) (j : Fin 64) : EReal :=
  x (ix2 ⟨c.val / 256 * 128 + c.val % 128, by omega⟩ ⟨c.val / 128 % 2 * 64 + j.val, by omega⟩)

/-- A block of the maxima, a document to a lane. -/
def columns (x : Vec Ideal S1024x128 .f32) : Vec Ideal S64x2048 .f32 := fun y => cell x (y 1) (y 0)

/-- A block of the scores. -/
def sums (x : Vec Ideal S1024x128 .f32) : Vec Ideal S2x2048 .f32 := fun y => ∑ n : Fin 32, cell x (y 1) (at2 (y 0) n)

/-- The first 64 lanes of a tile of 128 rows, turned. -/
def left (u : Vec Ideal S128x128 .f32) : FVec Ideal S64x128 .f32 :=
  extractStridedSlice S64x128 ![0, 0] (transpose S128x128 [1, 0] (shapeCast S128x128 u shapeCasts_S128x128_S128x128) transposes_S128x128_p1_0_S128x128)
    slices_S128x128_o0_0_S64x128

/-- The last 64 lanes of a tile of 128 rows, turned. -/
def right (u : Vec Ideal S128x128 .f32) : FVec Ideal S64x128 .f32 :=
  extractStridedSlice S64x128 ![64, 0] (transpose S128x128 [1, 0] (shapeCast S128x128 u shapeCasts_S128x128_S128x128) transposes_S128x128_p1_0_S128x128)
    slices_S128x128_o64_0_S64x128

/-- The sums of the first 32 rows. -/
def upper (v : FVec Ideal S64x128 .f32) : FVec Ideal S1x128 .f32 :=
  shapeCast S1x128 (multiReduction .add [0] S128 (extractStridedSlice S32x128 ![0, 0] v slices_S64x128_o0_0_S32x128) 0x00000000#32
    reduces_S32x128_S128 (.inl rfl) rfl) shapeCasts_S128_S1x128

/-- The sums of the last 32 rows. -/
def lower (v : FVec Ideal S64x128 .f32) : FVec Ideal S1x128 .f32 :=
  shapeCast S1x128 (multiReduction .add [0] S128 (extractStridedSlice S32x128 ![32, 0] v slices_S64x128_o32_0_S32x128) 0x00000000#32
    reduces_S32x128_S128 (.inl rfl) rfl) shapeCasts_S128_S1x128

theorem turned_apply (u : Vec Ideal S128x128 .f32) (a b : Fin 128) :
    transpose S128x128 [1, 0] (shapeCast S128x128 u shapeCasts_S128x128_S128x128) transposes_S128x128_p1_0_S128x128 (ix2 a b) = u (ix2 b a) := by
  rw [shapeCast_self]
  pointwise

theorem left_apply (u : Vec Ideal S128x128 .f32) (j : Fin 64) (l : Fin 128) : left u (ix2 j l) = u (ix2 l ⟨j.val, by omega⟩) := by
  refine Eq.trans ?_ (turned_apply u ⟨j.val, by omega⟩ l)
  exact extractStridedSlice_apply (s := S128x128) (t := S64x128) ![0, 0] _ _ (ix2 j l) (ix2 ⟨j.val, by omega⟩ l) fun a => by
    fin_cases a
    · exact (Nat.zero_add _).symm
    · exact (Nat.zero_add _).symm

theorem right_apply (u : Vec Ideal S128x128 .f32) (j : Fin 64) (l : Fin 128) : right u (ix2 j l) = u (ix2 l ⟨64 + j.val, by omega⟩) := by
  refine Eq.trans ?_ (turned_apply u ⟨64 + j.val, by omega⟩ l)
  exact extractStridedSlice_apply (s := S128x128) (t := S64x128) ![64, 0] _ _ (ix2 j l) (ix2 ⟨64 + j.val, by omega⟩ l) fun a => by
    fin_cases a
    · rfl
    · exact (Nat.zero_add _).symm

theorem rowsum_apply (w : FVec Ideal S32x128 .f32) (l : Fin 128) :
    shapeCast S1x128 (multiReduction .add [0] S128 w 0x00000000#32 reduces_S32x128_S128 (.inl rfl) rfl) shapeCasts_S128_S1x128 (ix2 0 l)
      = ∑ n : Fin 32, w (ix2 n l) := by
  pointwise

theorem upper_apply (v : FVec Ideal S64x128 .f32) (l : Fin 128) : upper v (ix2 0 l) = ∑ n : Fin 32, v (ix2 (at2 0 n) l) := by
  refine (rowsum_apply _ l).trans (Finset.sum_congr rfl fun n _ => ?_)
  exact extractStridedSlice_apply (s := S64x128) (t := S32x128) ![0, 0] _ _ (ix2 n l) (ix2 (at2 0 n) l) fun a => by
    fin_cases a
    · rfl
    · exact (Nat.zero_add _).symm

theorem lower_apply (v : FVec Ideal S64x128 .f32) (l : Fin 128) : lower v (ix2 0 l) = ∑ n : Fin 32, v (ix2 (at2 1 n) l) := by
  refine (rowsum_apply _ l).trans (Finset.sum_congr rfl fun n _ => ?_)
  exact extractStridedSlice_apply (s := S64x128) (t := S32x128) ![32, 0] _ _ (ix2 n l) (ix2 (at2 1 n) l) fun a => by
    fin_cases a
    · rfl
    · exact (Nat.zero_add _).symm

/-- Where a group of 128 lanes sits in a block. -/
theorem emb_at {n k : Nat} (p o : Nat) (h : ∀ a, (![p, o] : Fin 2 → Nat) a + (⟨2, ![k, 128]⟩ : Shape).size a ≤ (⟨2, ![n, 2048]⟩ : Shape).size a)
    (j : Fin k) (l : Fin 128) (J : Fin n) (c : Fin 2048) (hJ : J.val = p + j.val) (hc : c.val = o + l.val) :
    (Rect.unit (s := ⟨2, ![n, 2048]⟩) ![p, o] (⟨2, ![k, 128]⟩ : Shape).size h).emb (ix2 j l) = ix2 J c := by
  funext a
  fin_cases a
  · exact Fin.ext (by show p + 1 * j.val = J.val; omega)
  · exact Fin.ext (by show o + 1 * l.val = c.val; omega)

/-- Tile `o / 128` of the rows read, at a row and a lane. -/
theorem rows_apply (x : Vec Ideal S1024x128 .f32) (o : Nat) (h : ∀ a, (![o, 0] : Fin 2 → Nat) a + S128x128.size a ≤ S1024x128.size a)
    (r l : Fin 128) (R : Fin 1024) (L : Fin 128) (hR : R.val = o + r.val) (hL : L.val = l.val) :
    View.ld x (Rect.unit (s := S1024x128) ![o, 0] S128x128.size h) (ix2 r l) = x (ix2 R L) := by
  refine congrArg x (funext fun a => ?_)
  fin_cases a
  · exact Fin.ext (by show o + 1 * r.val = R.val; omega)
  · exact Fin.ext (by show 0 + 1 * l.val = L.val; omega)

/-- The lane a group's lane is in the block. -/
theorem lane_lt (g : Fin 16) (l : Fin 128) : 128 * g.val + l.val < 2048 := by omega

theorem left_cell (x : Vec Ideal S1024x128 .f32) (g : Fin 8) (o : Nat) (ho : o = 128 * g.val)
    (h : ∀ a, (![o, 0] : Fin 2 → Nat) a + S128x128.size a ≤ S1024x128.size a) (j : Fin 64) (l : Fin 128) (c : Fin 2048) (hc : c.val = 256 * g.val + l.val) :
    left (View.ld x (Rect.unit (s := S1024x128) ![o, 0] S128x128.size h)) (ix2 j l) = cell x c j :=
  (left_apply _ j l).trans (rows_apply x o h l _ _ _ (by show c.val / 256 * 128 + c.val % 128 = _; omega) (by show c.val / 128 % 2 * 64 + j.val = j.val; omega))

theorem right_cell (x : Vec Ideal S1024x128 .f32) (g : Fin 8) (o : Nat) (ho : o = 128 * g.val)
    (h : ∀ a, (![o, 0] : Fin 2 → Nat) a + S128x128.size a ≤ S1024x128.size a) (j : Fin 64) (l : Fin 128) (c : Fin 2048) (hc : c.val = 256 * g.val + 128 + l.val) :
    right (View.ld x (Rect.unit (s := S1024x128) ![o, 0] S128x128.size h)) (ix2 j l) = cell x c j :=
  (right_apply _ j l).trans (rows_apply x o h l _ _ _ (by show c.val / 256 * 128 + c.val % 128 = _; omega) (by show c.val / 128 % 2 * 64 + j.val = 64 + j.val; omega))

theorem left_columns (x : Vec Ideal S1024x128 .f32) (g : Fin 8) (o p : Nat) (ho : o = 128 * g.val) (hp : p = 256 * g.val + 0)
    (h : ∀ a, (![o, 0] : Fin 2 → Nat) a + S128x128.size a ≤ S1024x128.size a)
    (h' : ∀ a, (![0, p] : Fin 2 → Nat) a + S64x128.size a ≤ S64x2048.size a) (y : S64x128.Idx) :
    left (View.ld x (Rect.unit (s := S1024x128) ![o, 0] S128x128.size h)) y
      = columns x ((Rect.unit (s := S64x2048) ![0, p] S64x128.size h').emb y) := by
  obtain ⟨j, l, rfl⟩ : ∃ (j : Fin 64) (l : Fin 128), y = ix2 j l := ⟨y 0, y 1, eq_ix2 y⟩
  obtain ⟨c, hc⟩ : ∃ c : Fin 2048, c.val = p + l.val := ⟨⟨p + l.val, by omega⟩, rfl⟩
  refine (left_cell x g o ho h j l c (by omega)).trans (congrArg (columns x) (emb_at 0 p h' j l j c (by omega) hc)).symm

theorem left_upper (x : Vec Ideal S1024x128 .f32) (g : Fin 8) (o p : Nat) (ho : o = 128 * g.val) (hp : p = 256 * g.val + 0)
    (h : ∀ a, (![o, 0] : Fin 2 → Nat) a + S128x128.size a ≤ S1024x128.size a)
    (h' : ∀ a, (![0, p] : Fin 2 → Nat) a + S1x128.size a ≤ S2x2048.size a) (y : S1x128.Idx) :
    upper (left (View.ld x (Rect.unit (s := S1024x128) ![o, 0] S128x128.size h))) y
      = sums x ((Rect.unit (s := S2x2048) ![0, p] S1x128.size h').emb y) := by
  obtain ⟨i, l, rfl⟩ : ∃ (i : Fin 1) (l : Fin 128), y = ix2 i l := ⟨y 0, y 1, eq_ix2 y⟩
  obtain rfl : i = 0 := Subsingleton.elim _ _
  obtain ⟨c, hc⟩ : ∃ c : Fin 2048, c.val = p + l.val := ⟨⟨p + l.val, by omega⟩, rfl⟩
  refine (upper_apply _ l).trans ?_
  refine Eq.trans (Finset.sum_congr rfl fun n _ => left_cell x g o ho h (at2 0 n) l c (by omega)) ?_
  exact (congrArg (sums x) (emb_at 0 p h' 0 l 0 c rfl hc)).symm

theorem left_lower (x : Vec Ideal S1024x128 .f32) (g : Fin 8) (o p : Nat) (ho : o = 128 * g.val) (hp : p = 256 * g.val + 0)
    (h : ∀ a, (![o, 0] : Fin 2 → Nat) a + S128x128.size a ≤ S1024x128.size a)
    (h' : ∀ a, (![1, p] : Fin 2 → Nat) a + S1x128.size a ≤ S2x2048.size a) (y : S1x128.Idx) :
    lower (left (View.ld x (Rect.unit (s := S1024x128) ![o, 0] S128x128.size h))) y
      = sums x ((Rect.unit (s := S2x2048) ![1, p] S1x128.size h').emb y) := by
  obtain ⟨i, l, rfl⟩ : ∃ (i : Fin 1) (l : Fin 128), y = ix2 i l := ⟨y 0, y 1, eq_ix2 y⟩
  obtain rfl : i = 0 := Subsingleton.elim _ _
  obtain ⟨c, hc⟩ : ∃ c : Fin 2048, c.val = p + l.val := ⟨⟨p + l.val, by omega⟩, rfl⟩
  refine (lower_apply _ l).trans ?_
  refine Eq.trans (Finset.sum_congr rfl fun n _ => left_cell x g o ho h (at2 1 n) l c (by omega)) ?_
  exact (congrArg (sums x) (emb_at 1 p h' 0 l 1 c rfl hc)).symm

theorem right_columns (x : Vec Ideal S1024x128 .f32) (g : Fin 8) (o p : Nat) (ho : o = 128 * g.val) (hp : p = 256 * g.val + 128)
    (h : ∀ a, (![o, 0] : Fin 2 → Nat) a + S128x128.size a ≤ S1024x128.size a)
    (h' : ∀ a, (![0, p] : Fin 2 → Nat) a + S64x128.size a ≤ S64x2048.size a) (y : S64x128.Idx) :
    right (View.ld x (Rect.unit (s := S1024x128) ![o, 0] S128x128.size h)) y
      = columns x ((Rect.unit (s := S64x2048) ![0, p] S64x128.size h').emb y) := by
  obtain ⟨j, l, rfl⟩ : ∃ (j : Fin 64) (l : Fin 128), y = ix2 j l := ⟨y 0, y 1, eq_ix2 y⟩
  obtain ⟨c, hc⟩ : ∃ c : Fin 2048, c.val = p + l.val := ⟨⟨p + l.val, by omega⟩, rfl⟩
  refine (right_cell x g o ho h j l c (by omega)).trans (congrArg (columns x) (emb_at 0 p h' j l j c (by omega) hc)).symm

theorem right_upper (x : Vec Ideal S1024x128 .f32) (g : Fin 8) (o p : Nat) (ho : o = 128 * g.val) (hp : p = 256 * g.val + 128)
    (h : ∀ a, (![o, 0] : Fin 2 → Nat) a + S128x128.size a ≤ S1024x128.size a)
    (h' : ∀ a, (![0, p] : Fin 2 → Nat) a + S1x128.size a ≤ S2x2048.size a) (y : S1x128.Idx) :
    upper (right (View.ld x (Rect.unit (s := S1024x128) ![o, 0] S128x128.size h))) y
      = sums x ((Rect.unit (s := S2x2048) ![0, p] S1x128.size h').emb y) := by
  obtain ⟨i, l, rfl⟩ : ∃ (i : Fin 1) (l : Fin 128), y = ix2 i l := ⟨y 0, y 1, eq_ix2 y⟩
  obtain rfl : i = 0 := Subsingleton.elim _ _
  obtain ⟨c, hc⟩ : ∃ c : Fin 2048, c.val = p + l.val := ⟨⟨p + l.val, by omega⟩, rfl⟩
  refine (upper_apply _ l).trans ?_
  refine Eq.trans (Finset.sum_congr rfl fun n _ => right_cell x g o ho h (at2 0 n) l c (by omega)) ?_
  exact (congrArg (sums x) (emb_at 0 p h' 0 l 0 c rfl hc)).symm

theorem right_lower (x : Vec Ideal S1024x128 .f32) (g : Fin 8) (o p : Nat) (ho : o = 128 * g.val) (hp : p = 256 * g.val + 128)
    (h : ∀ a, (![o, 0] : Fin 2 → Nat) a + S128x128.size a ≤ S1024x128.size a)
    (h' : ∀ a, (![1, p] : Fin 2 → Nat) a + S1x128.size a ≤ S2x2048.size a) (y : S1x128.Idx) :
    lower (right (View.ld x (Rect.unit (s := S1024x128) ![o, 0] S128x128.size h))) y
      = sums x ((Rect.unit (s := S2x2048) ![1, p] S1x128.size h').emb y) := by
  obtain ⟨i, l, rfl⟩ : ∃ (i : Fin 1) (l : Fin 128), y = ix2 i l := ⟨y 0, y 1, eq_ix2 y⟩
  obtain rfl : i = 0 := Subsingleton.elim _ _
  obtain ⟨c, hc⟩ : ∃ c : Fin 2048, c.val = p + l.val := ⟨⟨p + l.val, by omega⟩, rfl⟩
  refine (lower_apply _ l).trans ?_
  refine Eq.trans (Finset.sum_congr rfl fun n _ => right_cell x g o ho h (at2 1 n) l c (by omega)) ?_
  exact (congrArg (sums x) (emb_at 1 p h' 0 l 1 c rfl hc)).symm

/-- The maxima window's buffer after the body: each of its sixteen stores writes one group of documents. -/
theorem columns_eq (x : Vec Ideal S1024x128 .f32) : out0_1 x = columns x := by
  funext y
  unfold_out out0_1
  refine View.canon_apply_of_pieces (columns x) _ ?_ y (cover0_1 _ _ _ _ _ _ _ _ _ _ _ _ _ _ _ _ y)
  simp only [List.forall_mem_cons, List.forall_mem_nil]
  refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun _ h => absurd h List.not_mem_nil⟩
  · exact right_columns x 7 896 1920 rfl rfl _ _ z
  · exact left_columns x 7 896 1792 rfl rfl _ _ z
  · exact right_columns x 6 768 1664 rfl rfl _ _ z
  · exact left_columns x 6 768 1536 rfl rfl _ _ z
  · exact right_columns x 5 640 1408 rfl rfl _ _ z
  · exact left_columns x 5 640 1280 rfl rfl _ _ z
  · exact right_columns x 4 512 1152 rfl rfl _ _ z
  · exact left_columns x 4 512 1024 rfl rfl _ _ z
  · exact right_columns x 3 384 896 rfl rfl _ _ z
  · exact left_columns x 3 384 768 rfl rfl _ _ z
  · exact right_columns x 2 256 640 rfl rfl _ _ z
  · exact left_columns x 2 256 512 rfl rfl _ _ z
  · exact right_columns x 1 128 384 rfl rfl _ _ z
  · exact left_columns x 1 128 256 rfl rfl _ _ z
  · exact right_columns x 0 0 128 rfl rfl _ _ z
  · exact left_columns x 0 0 0 rfl rfl _ _ z

/-- The scores window's buffer after the body: each of its 32 stores writes one query's sums over one group. -/
theorem sums_eq (x : Vec Ideal S1024x128 .f32) : out0_2 x = sums x := by
  funext y
  unfold_out out0_2
  refine View.canon_apply_of_pieces (sums x) _ ?_ y (cover0_2 _ _ _ _ _ _ _ _ _ _ _ _ _ _ _ _ _ _ _ _ _ _ _ _ _ _ _ _ _ _ _ _ y)
  simp only [List.forall_mem_cons, List.forall_mem_nil]
  refine ⟨fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun z => ?_, fun _ h => absurd h List.not_mem_nil⟩
  · exact right_lower x 7 896 1920 rfl rfl _ _ z
  · exact right_upper x 7 896 1920 rfl rfl _ _ z
  · exact left_lower x 7 896 1792 rfl rfl _ _ z
  · exact left_upper x 7 896 1792 rfl rfl _ _ z
  · exact right_lower x 6 768 1664 rfl rfl _ _ z
  · exact right_upper x 6 768 1664 rfl rfl _ _ z
  · exact left_lower x 6 768 1536 rfl rfl _ _ z
  · exact left_upper x 6 768 1536 rfl rfl _ _ z
  · exact right_lower x 5 640 1408 rfl rfl _ _ z
  · exact right_upper x 5 640 1408 rfl rfl _ _ z
  · exact left_lower x 5 640 1280 rfl rfl _ _ z
  · exact left_upper x 5 640 1280 rfl rfl _ _ z
  · exact right_lower x 4 512 1152 rfl rfl _ _ z
  · exact right_upper x 4 512 1152 rfl rfl _ _ z
  · exact left_lower x 4 512 1024 rfl rfl _ _ z
  · exact left_upper x 4 512 1024 rfl rfl _ _ z
  · exact right_lower x 3 384 896 rfl rfl _ _ z
  · exact right_upper x 3 384 896 rfl rfl _ _ z
  · exact left_lower x 3 384 768 rfl rfl _ _ z
  · exact left_upper x 3 384 768 rfl rfl _ _ z
  · exact right_lower x 2 256 640 rfl rfl _ _ z
  · exact right_upper x 2 256 640 rfl rfl _ _ z
  · exact left_lower x 2 256 512 rfl rfl _ _ z
  · exact left_upper x 2 256 512 rfl rfl _ _ z
  · exact right_lower x 1 128 384 rfl rfl _ _ z
  · exact right_upper x 1 128 384 rfl rfl _ _ z
  · exact left_lower x 1 128 256 rfl rfl _ _ z
  · exact left_upper x 1 128 256 rfl rfl _ _ z
  · exact right_lower x 0 0 128 rfl rfl _ _ z
  · exact right_upper x 0 0 128 rfl rfl _ _ z
  · exact left_lower x 0 0 0 rfl rfl _ _ z
  · exact left_upper x 0 0 0 rfl rfl _ _ z

end Cert.Outs
end
-- ==== Proof.Outs.Kernel.lean ====
/-
  The call that forms the results returns the scores and the maxima: its 22 blocks tile the two arrays (the last one
  reaching past their ends), and each block is the results' block of the rows it reads.
-/
module

public import proofs.«01_k».proof.Proof.Outs.Block
public import proofs.«01_k».proof.Proof.Gen.OutputsIdeal.Run
public import Idealize.ShloMosaic.Lib.Pipeline.ValueKit

@[expose] public section
noncomputable section
namespace Cert.Outs.Kernel
open Idealize.ShloMosaic Idealize.ShloMosaic.TcCoe Idealize.SL.Sem Cert.OutputsIdeal Cert.OutputsIdeal.Gen
open Idealize.ShloMosaic.Pipeline (Dat Window)

variable (m : (ℓ : Loc nD τ sig) → Buf (Elt Ideal) ℓ) (ρ : Dev nD → PrngReg)

/-- The flat array of device `c`. -/
abbrev flat (c : Dev nD) : Flat := (m ((c : Thread nD τ).loc main_arg0) : Vec Ideal S2883584 .f32)

theorem V_main_v0 (c : Dev nD) : V m c main_v0 = shapeCast S22528x128 (flat m c) shapeCasts_S2883584_S22528x128 := by
  show StableHlo.after (List.flatten [hostOps0]) _ (Proc.devRef .tc main_v0) = _
  simp only [hostOps0, List.flatten_cons, List.flatten_nil, List.append_nil, List.cons_append, List.nil_append]
  after_results
  rfl

theorem idx_facts : ∀ t : Fin cfg0.N,
    (win0_0.index t 0 = t.val ∧ win0_0.index t 1 = 0) ∧ (win0_1.index t 0 = 0 ∧ win0_1.index t 1 = t.val)
    ∧ (win0_2.index t 0 = 0 ∧ win0_2.index t 1 = t.val) :=
  (by decide +kernel : ∀ t : Fin grid0.N,
    (win0_0.index t 0 = t.val ∧ win0_0.index t 1 = 0) ∧ (win0_1.index t 0 = 0 ∧ win0_1.index t 1 = t.val)
    ∧ (win0_2.index t 0 = 0 ∧ win0_2.index t 1 = t.val))

/-- A block's numbers are the flat array's. -/
theorem cell_eq (c : Dev nD) (t : Fin cfg0.N) (x : Fin 2048) (j : Fin 64) (d : Fin 45000) (hd : d.val = t.val * 2048 + x.val) :
    cell (iblk m c 0 t) x j = entry (flat m c) d j := by
  have ht : t.val < 22 := Nat.lt_of_lt_of_eq t.isLt N_0
  have e : (V m c main_v0 : Vec Ideal S22528x128 .f32)
      (ix2 ⟨d.val / 256 * 128 + d.val % 128, by omega⟩ ⟨d.val / 128 % 2 * 64 + j.val, by omega⟩) = entry (flat m c) d j := by
    rw [V_main_v0]
    refine shapeCast_apply (s := S2883584) (t := S22528x128) _ _ _ _ ?_
    rw [Shape.rowMajor_val_one, Shape.rowMajor_val_two]
    rfl
  refine Eq.trans ?_ e
  refine congrArg (V m c main_v0 : Vec Ideal S22528x128 .f32) (funext fun a => Fin.ext ?_)
  obtain ⟨⟨h0, h1⟩, -⟩ := idx_facts t
  fin_cases a
  · refine (win0_0.rect_emb_val t _ 0).trans ?_
    rw [h0]
    show t.val * 1024 + (x.val / 256 * 128 + x.val % 128) = d.val / 256 * 128 + d.val % 128
    omega
  · refine (win0_0.rect_emb_val t _ 1).trans ?_
    rw [h1]
    show 0 * 128 + (x.val / 128 % 2 * 64 + j.val) = d.val / 128 % 2 * 64 + j.val
    omega

/-- The maxima, a document to a lane. -/
def lanes (f : Flat) : Vec Ideal S64x45000 .f32 := fun x => entry f (x 1) (x 0)

theorem lanes_eq (c : Dev nD) : (dats m 0 c).arrAt 1 cfg0.N = lanes (flat m c) := by
  refine (dats m 0 c).arrAt_eq_of_covers 1 _ (by decide +kernel) fun t _ y => ?_
  rw [after0_1, columns_eq]
  obtain ⟨-, ⟨h0, h1⟩, -⟩ := idx_facts t
  have e0 := win0_1.rect_emb_val t y 0
  have e1 := win0_1.rect_emb_val t y 1
  rw [h0] at e0
  rw [h1] at e1
  have q0 : ((cfg0.win 1).blk t).view.emb y 0 = (cfg0.win 1).xinj (grid0.coords t) y 0 := Fin.ext (e0.trans (by show 0 * 64 + (y 0).val = (y 0).val; omega))
  show cell (iblk m c 0 t) ((cfg0.win 1).xinj (grid0.coords t) y 1) ((cfg0.win 1).xinj (grid0.coords t) y 0) = entry (flat m c) (((cfg0.win 1).blk t).view.emb y 1) (((cfg0.win 1).blk t).view.emb y 0)
  rw [q0]
  exact cell_eq m c t _ _ _ e1

theorem scores_eq (c : Dev nD) : (dats m 0 c).arrAt 2 cfg0.N = scores (flat m c) := by
  refine (dats m 0 c).arrAt_eq_of_covers 2 _ (by decide +kernel) fun t _ y => ?_
  rw [after0_2, sums_eq]
  obtain ⟨-, -, ⟨h0, h1⟩⟩ := idx_facts t
  have e0 := win0_2.rect_emb_val t y 0
  have e1 := win0_2.rect_emb_val t y 1
  rw [h0] at e0
  rw [h1] at e1
  have q0 : ((cfg0.win 2).blk t).view.emb y 0 = (cfg0.win 2).xinj (grid0.coords t) y 0 := Fin.ext (e0.trans (by show 0 * 2 + (y 0).val = (y 0).val; omega))
  show ∑ n : Fin 32, cell (iblk m c 0 t) ((cfg0.win 2).xinj (grid0.coords t) y 1) (at2 ((cfg0.win 2).xinj (grid0.coords t) y 0) n)
    = ∑ n : Fin 32, entry (flat m c) (((cfg0.win 2).blk t).view.emb y 1) (at2 (((cfg0.win 2).blk t).view.emb y 0) n)
  rw [q0]
  exact Finset.sum_congr rfl fun n _ => cell_eq m c t _ _ _ e1

theorem maxima_eq (f : Flat) :
    transpose S45000x2x32 [2, 0, 1] (shapeCast S2x32x45000 (lanes f) shapeCasts_S64x45000_S2x32x45000) transposes_S2x32x45000_S45000x2x32_2_0_1 = maxima f := by
  funext x
  obtain ⟨d, k, n, rfl⟩ : ∃ (d : Fin 45000) (k : Fin 2) (n : Fin 32), x = ix3 d k n := ⟨x 0, x 1, x 2, eq_ix3 x⟩
  have e : transpose S45000x2x32 [2, 0, 1] (shapeCast S2x32x45000 (lanes f) shapeCasts_S64x45000_S2x32x45000) transposes_S2x32x45000_S45000x2x32_2_0_1 (ix3 d k n)
      = shapeCast S2x32x45000 (lanes f) shapeCasts_S64x45000_S2x32x45000 (ix3 k n d) := by
    pointwise
  rw [e]
  refine (shapeCast_apply (s := S64x45000) (t := S2x32x45000) _ _ (ix3 k n d) (ix2 (at2 k n) d) ?_).trans rfl
  rw [Shape.rowMajor_val_two, Shape.rowMajor_val_three]
  rfl

/-- The run: the two results, the argument unchanged. -/
theorem run : θ_run defs (onTc (τ := τ) (main (F := Ideal))) ⟨m, fun _ => 0, ρ⟩ fun r => ∀ c : Dev nD,
      r.2.mem ((c : Thread nD τ).loc main_v1_1) = scores (flat m c)
      ∧ r.2.mem ((c : Thread nD τ).loc main_v3) = maxima (flat m c)
      ∧ r.2.mem ((c : Thread nD τ).loc main_arg0) = m ((c : Thread nD τ).loc main_arg0) := by
  refine (θ_run defs _ _).mono (fun _ h c => ⟨(h c).1.trans (scores_eq m c), (h c).2.1.trans ?_, (h c).2.2⟩) (Value.run m ρ)
  rw [show Value.reg_main_v1_0 m c = lanes (flat m c) from lanes_eq m c]
  exact maxima_eq _

end Cert.Outs.Kernel
end
-- ==== Proof.Outs.Reference.lean ====
/-
  The reference that forms the results returns the scores and the maxima.
-/
module

public import proofs.«01_k».proof.Proof.Outs.Spec
public import proofs.«01_k».proof.Proof.Gen.OutputsRefIdeal.Run
public import Idealize.ShloMosaic.Lib.Pointwise.Tactic
public import Idealize.ShloMosaic.Lib.Pointwise.Reduce

@[expose] public section
noncomputable section
namespace Cert.Outs.Reference
open Idealize.ShloMosaic Idealize.ShloMosaic.TcCoe Idealize.SL.Sem Cert.OutputsRefIdeal Cert.OutputsRefIdeal.Gen

/-- The documents' numbers, 64 to a row, as the reference lays them out. -/
def rows (f : Flat) : Vec Ideal S45056x64 .f32 :=
  shapeCast S45056x64 (transpose S176x2x128x64 [0, 2, 1, 3] (shapeCast S176x128x2x64 f shapeCasts_S2883584_S176x128x2x64) transposes_S176x128x2x64_S176x2x128x64_0_2_1_3)
    shapeCasts_S176x2x128x64_S45056x64

theorem rows_apply (f : Flat) (d : Fin 45056) (j : Fin 64) : rows f (ix2 d j) = f (ix1 ⟨position d.val j.val, position_lt d.val j.val d.isLt j.isLt⟩) := by
  obtain ⟨a, ha⟩ : ∃ a : Fin 176, a.val = d.val / 256 := ⟨⟨d.val / 256, by omega⟩, rfl⟩
  obtain ⟨h, hh⟩ : ∃ h : Fin 2, h.val = d.val / 128 % 2 := ⟨⟨d.val / 128 % 2, by omega⟩, rfl⟩
  obtain ⟨l, hl⟩ : ∃ l : Fin 128, l.val = d.val % 128 := ⟨⟨d.val % 128, by omega⟩, rfl⟩
  unfold rows
  refine (shapeCast_apply (s := S176x2x128x64) (t := S45056x64) _ _ (ix2 d j) (ix4 a h l j) ?_).trans ?_
  · rw [Shape.rowMajor_val_two, Shape.rowMajor_val_four]
    show ((a.val * 2 + h.val) * 128 + l.val) * 64 + j.val = d.val * 64 + j.val
    omega
  have e : transpose S176x2x128x64 [0, 2, 1, 3] (shapeCast S176x128x2x64 f shapeCasts_S2883584_S176x128x2x64) transposes_S176x128x2x64_S176x2x128x64_0_2_1_3 (ix4 a h l j)
      = shapeCast S176x128x2x64 f shapeCasts_S2883584_S176x128x2x64 (ix4 a l h j) := by
    pointwise
  rw [e]
  refine shapeCast_apply (s := S2883584) (t := S176x128x2x64) _ _ (ix4 a l h j) _ ?_
  rw [Shape.rowMajor_val_one, Shape.rowMajor_val_four]
  show position d.val j.val = ((a.val * 128 + l.val) * 2 + h.val) * 64 + j.val
  unfold position
  omega

theorem maxima_eq (f : Flat) :
    shapeCast S45000x2x32 (extractStridedSlice S45000x64 ![0, 0] (rows f) slices_S45056x64_S45000x64_0_0) shapeCasts_S45000x64_S45000x2x32 = maxima f := by
  funext x
  obtain ⟨d, k, n, rfl⟩ : ∃ (d : Fin 45000) (k : Fin 2) (n : Fin 32), x = ix3 d k n := ⟨x 0, x 1, x 2, eq_ix3 x⟩
  refine (shapeCast_apply (s := S45000x64) (t := S45000x2x32) _ _ (ix3 d k n) (ix2 d (at2 k n)) ?_).trans ?_
  · rw [Shape.rowMajor_val_two, Shape.rowMajor_val_three]
    show d.val * 64 + (k.val * 32 + n.val) = (d.val * 2 + k.val) * 32 + n.val
    omega
  refine (extractStridedSlice_apply (s := S45056x64) (t := S45000x64) ![0, 0] _ _ (ix2 d (at2 k n)) (ix2 ⟨d.val, by omega⟩ (at2 k n)) fun a => ?_).trans
    (rows_apply f _ _)
  fin_cases a
  · exact (Nat.zero_add _).symm
  · exact (Nat.zero_add _).symm

theorem scores_eq (f : Flat) :
    transpose S2x45000 [1, 0] (Host.reduceAdd (F := Ideal) (maxima f : FVec Ideal S45000x2x32 .f32) (constant S_ .f32 0x00000000#32) reducesTo_S45000x2x32_S45000x2_d2 h_S_) transposes_S45000x2_S2x45000_1_0
      = scores f := by
  funext x
  obtain ⟨k, d, rfl⟩ : ∃ (k : Fin 2) (d : Fin 45000), x = ix2 k d := ⟨x 0, x 1, eq_ix2 x⟩
  pointwise
  rfl

variable (m : (ℓ : Loc nD τ sig) → Buf (Elt Ideal) ℓ) (ρ : Dev nD → PrngReg)

/-- The flat array of device `c`. -/
abbrev flat (c : Dev nD) : Flat := (m ((c : Thread nD τ).loc main_arg0) : Vec Ideal S2883584 .f32)

/-- The run: the two results, the argument unchanged. -/
theorem run : θ_run defs (onTc (τ := τ) (main (F := Ideal))) ⟨m, fun _ => 0, ρ⟩ fun r => ∀ c : Dev nD,
      r.2.mem ((c : Thread nD τ).loc main_v6) = scores (flat m c)
      ∧ r.2.mem ((c : Thread nD τ).loc main_v4) = maxima (flat m c)
      ∧ r.2.mem ((c : Thread nD τ).loc main_arg0) = m ((c : Thread nD τ).loc main_arg0) := by
  refine (θ_run defs _ _).mono (fun _ h c => ?_) (Value.run m ρ)
  have e := maxima_eq (flat m c)
  refine ⟨(h c).1.trans ?_, (h c).2.1.trans e, (h c).2.2⟩
  rw [← scores_eq, ← e]
  rfl

/-- The program declares no semaphore, so every counter ends at zero. -/
theorem frame : θ_run defs (onTc (τ := τ) (main (F := Ideal))) ⟨m, fun _ => 0, ρ⟩ fun r =>
    (∀ c : Dev nD, r.2.mem ((c : Thread nD τ).loc main_arg0) = m ((c : Thread nD τ).loc main_arg0)) ∧ r.2.sem = fun _ => 0 :=
  (θ_run defs _ _).mono (fun r h => ⟨fun c => (h c).2.2, Idealize.ShloMosaic.sem_eq_zero_of_no_sems (by decide) r.2⟩) (Value.run m ρ)

end Cert.Outs.Reference
end
-- ==== Proof.Table.Runs.lean ====
/-
  The table kernel's body: the branch it takes at the first grid point only, the buffers it works on, and what it
  leaves in the buffers of the windows of the table, of the words and of the cuts.
-/
module

public import proofs.«01_k».proof.Proof.Gen.TablesIdeal.Frame
public import proofs.«01_k».proof.Proof.Gen.TablesIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Table.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal Cert.TablesIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S354x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .i32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves in the table window's buffer -/

/-- The sixteen tiles of 128 rows the body stores, one after the other. -/
abbrev tile0 : Rect S2048x128 := Rect.unit (s := S2048x128) ![0, 0] S128x128.size inb_S2048x128_S128x128_0_0
abbrev tile1 : Rect S2048x128 := Rect.unit (s := S2048x128) ![128, 0] S128x128.size inb_S2048x128_S128x128_128_0
abbrev tile2 : Rect S2048x128 := Rect.unit (s := S2048x128) ![256, 0] S128x128.size inb_S2048x128_S128x128_256_0
abbrev tile3 : Rect S2048x128 := Rect.unit (s := S2048x128) ![384, 0] S128x128.size inb_S2048x128_S128x128_384_0
abbrev tile4 : Rect S2048x128 := Rect.unit (s := S2048x128) ![512, 0] S128x128.size inb_S2048x128_S128x128_512_0
abbrev tile5 : Rect S2048x128 := Rect.unit (s := S2048x128) ![640, 0] S128x128.size inb_S2048x128_S128x128_640_0
abbrev tile6 : Rect S2048x128 := Rect.unit (s := S2048x128) ![768, 0] S128x128.size inb_S2048x128_S128x128_768_0
abbrev tile7 : Rect S2048x128 := Rect.unit (s := S2048x128) ![896, 0] S128x128.size inb_S2048x128_S128x128_896_0
abbrev tile8 : Rect S2048x128 := Rect.unit (s := S2048x128) ![1024, 0] S128x128.size inb_S2048x128_S128x128_1024_0
abbrev tile9 : Rect S2048x128 := Rect.unit (s := S2048x128) ![1152, 0] S128x128.size inb_S2048x128_S128x128_1152_0
abbrev tile10 : Rect S2048x128 := Rect.unit (s := S2048x128) ![1280, 0] S128x128.size inb_S2048x128_S128x128_1280_0
abbrev tile11 : Rect S2048x128 := Rect.unit (s := S2048x128) ![1408, 0] S128x128.size inb_S2048x128_S128x128_1408_0
abbrev tile12 : Rect S2048x128 := Rect.unit (s := S2048x128) ![1536, 0] S128x128.size inb_S2048x128_S128x128_1536_0
abbrev tile13 : Rect S2048x128 := Rect.unit (s := S2048x128) ![1664, 0] S128x128.size inb_S2048x128_S128x128_1664_0
abbrev tile14 : Rect S2048x128 := Rect.unit (s := S2048x128) ![1792, 0] S128x128.size inb_S2048x128_S128x128_1792_0
abbrev tile15 : Rect S2048x128 := Rect.unit (s := S2048x128) ![1920, 0] S128x128.size inb_S2048x128_S128x128_1920_0
/-- The whole of a scale window and of the query matrix, as the body loads them. -/
abbrev whole16 : Rect S16x128 := Rect.unit (s := S16x128) ![0, 0] S16x128.size inb_S16x128_S16x128_0_0
abbrev wholeQ : Rect S128x256 := Rect.unit (s := S128x256) ![0, 0] S128x256.size inb_S128x256_S128x256_0_0
abbrev wholeq : Rect S64x128 := Rect.unit (s := S64x128) ![0, 0] S64x128.size inb_S64x128_S64x128_0_0

/-- The query matrix the first grid point keeps for all of them. -/
def kept (x4 : Vec F S64x128 .bf16) : Vec F S128x256 .bf16 := k0_pay4 (View.ld x4 wholeq)

/-- The table window's buffer after the body, from the blocks of codes and scales and the query matrix `w` kept:
    the sixteen stores, the last one first. -/
def out (x0 x1 : Vec F S2048x128 .fp8e4m3) (x2 x3 : Vec F S16x128 .f32) (w : Vec F S128x256 .bf16) : Vec F S2048x128 .f32 :=
  View.canon [⟨tile15, k0_pay131 (k0_pay59 (View.ld x2 whole16) (View.ld x3 whole16)) (k0_pay128 (View.ld w wholeQ) (View.ld x0 tile15) (View.ld x1 tile15)) (k0_pay129 (iota .tc S128x128 32 [1] iota_S128x128_d1_w32)) (k0_pay130 (iota .tc S128x128 32 [1] iota_S128x128_d1_w32)) 128#32⟩,
    ⟨tile14, k0_pay125 (View.ld w wholeQ) (k0_pay59 (View.ld x2 whole16) (View.ld x3 whole16)) (iota .tc S128x128 32 [1] iota_S128x128_d1_w32) (View.ld x0 tile14) (View.ld x1 tile14)⟩,
    ⟨tile13, k0_pay122 (k0_pay59 (View.ld x2 whole16) (View.ld x3 whole16)) (k0_pay119 (View.ld w wholeQ) (View.ld x0 tile13) (View.ld x1 tile13)) (k0_pay120 (iota .tc S128x128 32 [1] iota_S128x128_d1_w32)) (k0_pay121 (iota .tc S128x128 32 [1] iota_S128x128_d1_w32)) 128#32⟩,
    ⟨tile12, k0_pay116 (View.ld w wholeQ) (k0_pay59 (View.ld x2 whole16) (View.ld x3 whole16)) (iota .tc S128x128 32 [1] iota_S128x128_d1_w32) (View.ld x0 tile12) (View.ld x1 tile12)⟩,
    ⟨tile11, k0_pay113 (k0_pay59 (View.ld x2 whole16) (View.ld x3 whole16)) (k0_pay110 (View.ld w wholeQ) (View.ld x0 tile11) (View.ld x1 tile11)) (k0_pay111 (iota .tc S128x128 32 [1] iota_S128x128_d1_w32)) (k0_pay112 (iota .tc S128x128 32 [1] iota_S128x128_d1_w32)) 128#32⟩,
    ⟨tile10, k0_pay107 (View.ld w wholeQ) (k0_pay59 (View.ld x2 whole16) (View.ld x3 whole16)) (iota .tc S128x128 32 [1] iota_S128x128_d1_w32) (View.ld x0 tile10) (View.ld x1 tile10)⟩,
    ⟨tile9, k0_pay104 (k0_pay59 (View.ld x2 whole16) (View.ld x3 whole16)) (k0_pay101 (View.ld w wholeQ) (View.ld x0 tile9) (View.ld x1 tile9)) (k0_pay102 (iota .tc S128x128 32 [1] iota_S128x128_d1_w32)) (k0_pay103 (iota .tc S128x128 32 [1] iota_S128x128_d1_w32)) 128#32⟩,
    ⟨tile8, k0_pay98 (View.ld w wholeQ) (k0_pay59 (View.ld x2 whole16) (View.ld x3 whole16)) (iota .tc S128x128 32 [1] iota_S128x128_d1_w32) (View.ld x0 tile8) (View.ld x1 tile8)⟩,
    ⟨tile7, k0_pay95 (k0_pay59 (View.ld x2 whole16) (View.ld x3 whole16)) (k0_pay92 (View.ld w wholeQ) (View.ld x0 tile7) (View.ld x1 tile7)) (k0_pay93 (iota .tc S128x128 32 [1] iota_S128x128_d1_w32)) (k0_pay94 (iota .tc S128x128 32 [1] iota_S128x128_d1_w32)) 128#32⟩,
    ⟨tile6, k0_pay89 (View.ld w wholeQ) (k0_pay59 (View.ld x2 whole16) (View.ld x3 whole16)) (iota .tc S128x128 32 [1] iota_S128x128_d1_w32) (View.ld x0 tile6) (View.ld x1 tile6)⟩,
    ⟨tile5, k0_pay86 (k0_pay59 (View.ld x2 whole16) (View.ld x3 whole16)) (k0_pay83 (View.ld w wholeQ) (View.ld x0 tile5) (View.ld x1 tile5)) (k0_pay84 (iota .tc S128x128 32 [1] iota_S128x128_d1_w32)) (k0_pay85 (iota .tc S128x128 32 [1] iota_S128x128_d1_w32)) 128#32⟩,
    ⟨tile4, k0_pay80 (View.ld w wholeQ) (k0_pay59 (View.ld x2 whole16) (View.ld x3 whole16)) (iota .tc S128x128 32 [1] iota_S128x128_d1_w32) (View.ld x0 tile4) (View.ld x1 tile4)⟩,
    ⟨tile3, k0_pay77 (k0_pay59 (View.ld x2 whole16) (View.ld x3 whole16)) (k0_pay74 (View.ld w wholeQ) (View.ld x0 tile3) (View.ld x1 tile3)) (k0_pay75 (iota .tc S128x128 32 [1] iota_S128x128_d1_w32)) (k0_pay76 (iota .tc S128x128 32 [1] iota_S128x128_d1_w32)) 128#32⟩,
    ⟨tile2, k0_pay71 (View.ld w wholeQ) (k0_pay59 (View.ld x2 whole16) (View.ld x3 whole16)) (iota .tc S128x128 32 [1] iota_S128x128_d1_w32) (View.ld x0 tile2) (View.ld x1 tile2)⟩,
    ⟨tile1, k0_pay68 (k0_pay59 (View.ld x2 whole16) (View.ld x3 whole16)) (k0_pay65 (View.ld w wholeQ) (View.ld x0 tile1) (View.ld x1 tile1)) (k0_pay66 (iota .tc S128x128 32 [1] iota_S128x128_d1_w32)) (k0_pay67 (iota .tc S128x128 32 [1] iota_S128x128_d1_w32)) 128#32⟩,
    ⟨tile0, k0_pay62 (View.ld w wholeQ) (k0_pay59 (View.ld x2 whole16) (View.ld x3 whole16)) (iota .tc S128x128 32 [1] iota_S128x128_d1_w32) (View.ld x0 tile0) (View.ld x1 tile0)⟩]

/-- The sixteen tiles cover the buffer. -/
theorem cover (p0 p1 p2 p3 p4 p5 p6 p7 p8 p9 p10 p11 p12 p13 p14 p15 : Vec F S128x128 .f32) (y : S2048x128.Idx) :
    ∃ pc ∈ ([⟨tile15, p0⟩, ⟨tile14, p1⟩, ⟨tile13, p2⟩, ⟨tile12, p3⟩, ⟨tile11, p4⟩, ⟨tile10, p5⟩, ⟨tile9, p6⟩, ⟨tile8, p7⟩, ⟨tile7, p8⟩, ⟨tile6, p9⟩, ⟨tile5, p10⟩, ⟨tile4, p11⟩, ⟨tile3, p12⟩, ⟨tile2, p13⟩, ⟨tile1, p14⟩, ⟨tile0, p15⟩] : List (View.Piece (Elt F) S2048x128 .f32)), y ∈ pc.1.set :=
  View.cover_of_tiled [⟨tile15, p0⟩, ⟨tile14, p1⟩, ⟨tile13, p2⟩, ⟨tile12, p3⟩, ⟨tile11, p4⟩, ⟨tile10, p5⟩, ⟨tile9, p6⟩, ⟨tile8, p7⟩, ⟨tile7, p8⟩, ⟨tile6, p9⟩, ⟨tile5, p10⟩, ⟨tile4, p11⟩, ⟨tile3, p12⟩, ⟨tile2, p13⟩, ⟨tile1, p14⟩, ⟨tile0, p15⟩] S128x128.size (by rfl) y

/-! ## What the body leaves in the two windows of words -/

/-- The bits grid row `k` sets in 128 words, one per row of the tile `p`: for the four groups of lanes of the tile, the
    group's bit where some lane of the group is nonzero. -/
def maskRow (k : BitVec 32) (p : FVec F S128x128 .f32) : IVec S1x128 32 :=
  have hit : IVec S128x128 1 := cmpf .one p (broadcast S128x128 (Scalar.ofBits .f32 0x00000000#32))
  have member : FVec F S128x128 .bf16 := truncf .bf16 (select hit (broadcast S128x128 (Scalar.ofBits .f32 0x3F800000#32)) (broadcast S128x128 (Scalar.ofBits .f32 0x00000000#32))) bitsLt_bf16_f32
  have count : FVec F S16x128 .f32 := matmul dot_S16x128_S128x128_S16x128_1_1_0_0_n_n none (k0_pay61 (F := F) (iota .tc S16x128 32 [0] iota_S16x128_d0_w32) k0_pay60) member (constant S16x128 .f32 0x00000000#32)
  have row : IVec S16x128 32 := iota .tc S16x128 32 [0] iota_S16x128_d0_w32
  have bit : IVec S16x128 32 := addi (select (cmpi .slt row (broadcast S16x128 2#32)) row (addi (subi row (broadcast S16x128 2#32)) (broadcast S16x128 16#32))) (broadcast S16x128 (Scalar.muli k 2#32))
  have set : IVec S16x128 32 := select (cmpf .ogt count (broadcast S16x128 (Scalar.ofBits .f32 0x00000000#32))) (shli (broadcast S16x128 1#32) bit) (broadcast S16x128 0#32)
  shapeCast S1x128 (multiReductionI .add [0] S128 set 0#32 reduces_S16x128_S128 rfl) shapeCasts_S128_S1x128

/-- Those bits at the first grid row, and with the bits already there at the later ones. -/
def merged (k : BitVec 32) (p : FVec F S128x128 .f32) (old : Vec F S1x128 .i32) : IVec S1x128 32 :=
  k0_pay70 (F := F) (maskRow k p) (Scalar.cmpi .eq k 0#32) old

/-- The sixteen runs of 128 words the body stores, one after the other. -/
abbrev run0 : Rect S1x2048 := Rect.unit (s := S1x2048) ![0, 0] S1x128.size inb_S1x2048_S1x128_0_0
abbrev run1 : Rect S1x2048 := Rect.unit (s := S1x2048) ![0, 128] S1x128.size inb_S1x2048_S1x128_0_128
abbrev run2 : Rect S1x2048 := Rect.unit (s := S1x2048) ![0, 256] S1x128.size inb_S1x2048_S1x128_0_256
abbrev run3 : Rect S1x2048 := Rect.unit (s := S1x2048) ![0, 384] S1x128.size inb_S1x2048_S1x128_0_384
abbrev run4 : Rect S1x2048 := Rect.unit (s := S1x2048) ![0, 512] S1x128.size inb_S1x2048_S1x128_0_512
abbrev run5 : Rect S1x2048 := Rect.unit (s := S1x2048) ![0, 640] S1x128.size inb_S1x2048_S1x128_0_640
abbrev run6 : Rect S1x2048 := Rect.unit (s := S1x2048) ![0, 768] S1x128.size inb_S1x2048_S1x128_0_768
abbrev run7 : Rect S1x2048 := Rect.unit (s := S1x2048) ![0, 896] S1x128.size inb_S1x2048_S1x128_0_896
abbrev run8 : Rect S1x2048 := Rect.unit (s := S1x2048) ![0, 1024] S1x128.size inb_S1x2048_S1x128_0_1024
abbrev run9 : Rect S1x2048 := Rect.unit (s := S1x2048) ![0, 1152] S1x128.size inb_S1x2048_S1x128_0_1152
abbrev run10 : Rect S1x2048 := Rect.unit (s := S1x2048) ![0, 1280] S1x128.size inb_S1x2048_S1x128_0_1280
abbrev run11 : Rect S1x2048 := Rect.unit (s := S1x2048) ![0, 1408] S1x128.size inb_S1x2048_S1x128_0_1408
abbrev run12 : Rect S1x2048 := Rect.unit (s := S1x2048) ![0, 1536] S1x128.size inb_S1x2048_S1x128_0_1536
abbrev run13 : Rect S1x2048 := Rect.unit (s := S1x2048) ![0, 1664] S1x128.size inb_S1x2048_S1x128_0_1664
abbrev run14 : Rect S1x2048 := Rect.unit (s := S1x2048) ![0, 1792] S1x128.size inb_S1x2048_S1x128_0_1792
abbrev run15 : Rect S1x2048 := Rect.unit (s := S1x2048) ![0, 1920] S1x128.size inb_S1x2048_S1x128_0_1920

/-- The word window's buffer after the body at grid row `k`, from the contents `d` before it. -/
def words (k : BitVec 32) (x0 x1 : Vec F S2048x128 .fp8e4m3) (x2 x3 : Vec F S16x128 .f32) (w : Vec F S128x256 .bf16) (d : Vec F S1x2048 .i32) : Vec F S1x2048 .i32 :=
  View.canon [⟨run15, merged k (k0_pay131 (k0_pay59 (View.ld x2 whole16) (View.ld x3 whole16)) (k0_pay128 (View.ld w wholeQ) (View.ld x0 tile15) (View.ld x1 tile15)) (k0_pay129 (iota .tc S128x128 32 [1] iota_S128x128_d1_w32)) (k0_pay130 (iota .tc S128x128 32 [1] iota_S128x128_d1_w32)) 128#32) (View.ld d run15)⟩,
    ⟨run14, merged k (k0_pay125 (View.ld w wholeQ) (k0_pay59 (View.ld x2 whole16) (View.ld x3 whole16)) (iota .tc S128x128 32 [1] iota_S128x128_d1_w32) (View.ld x0 tile14) (View.ld x1 tile14)) (View.ld d run14)⟩,
    ⟨run13, merged k (k0_pay122 (k0_pay59 (View.ld x2 whole16) (View.ld x3 whole16)) (k0_pay119 (View.ld w wholeQ) (View.ld x0 tile13) (View.ld x1 tile13)) (k0_pay120 (iota .tc S128x128 32 [1] iota_S128x128_d1_w32)) (k0_pay121 (iota .tc S128x128 32 [1] iota_S128x128_d1_w32)) 128#32) (View.ld d run13)⟩,
    ⟨run12, merged k (k0_pay116 (View.ld w wholeQ) (k0_pay59 (View.ld x2 whole16) (View.ld x3 whole16)) (iota .tc S128x128 32 [1] iota_S128x128_d1_w32) (View.ld x0 tile12) (View.ld x1 tile12)) (View.ld d run12)⟩,
    ⟨run11, merged k (k0_pay113 (k0_pay59 (View.ld x2 whole16) (View.ld x3 whole16)) (k0_pay110 (View.ld w wholeQ) (View.ld x0 tile11) (View.ld x1 tile11)) (k0_pay111 (iota .tc S128x128 32 [1] iota_S128x128_d1_w32)) (k0_pay112 (iota .tc S128x128 32 [1] iota_S128x128_d1_w32)) 128#32) (View.ld d run11)⟩,
    ⟨run10, merged k (k0_pay107 (View.ld w wholeQ) (k0_pay59 (View.ld x2 whole16) (View.ld x3 whole16)) (iota .tc S128x128 32 [1] iota_S128x128_d1_w32) (View.ld x0 tile10) (View.ld x1 tile10)) (View.ld d run10)⟩,
    ⟨run9, merged k (k0_pay104 (k0_pay59 (View.ld x2 whole16) (View.ld x3 whole16)) (k0_pay101 (View.ld w wholeQ) (View.ld x0 tile9) (View.ld x1 tile9)) (k0_pay102 (iota .tc S128x128 32 [1] iota_S128x128_d1_w32)) (k0_pay103 (iota .tc S128x128 32 [1] iota_S128x128_d1_w32)) 128#32) (View.ld d run9)⟩,
    ⟨run8, merged k (k0_pay98 (View.ld w wholeQ) (k0_pay59 (View.ld x2 whole16) (View.ld x3 whole16)) (iota .tc S128x128 32 [1] iota_S128x128_d1_w32) (View.ld x0 tile8) (View.ld x1 tile8)) (View.ld d run8)⟩,
    ⟨run7, merged k (k0_pay95 (k0_pay59 (View.ld x2 whole16) (View.ld x3 whole16)) (k0_pay92 (View.ld w wholeQ) (View.ld x0 tile7) (View.ld x1 tile7)) (k0_pay93 (iota .tc S128x128 32 [1] iota_S128x128_d1_w32)) (k0_pay94 (iota .tc S128x128 32 [1] iota_S128x128_d1_w32)) 128#32) (View.ld d run7)⟩,
    ⟨run6, merged k (k0_pay89 (View.ld w wholeQ) (k0_pay59 (View.ld x2 whole16) (View.ld x3 whole16)) (iota .tc S128x128 32 [1] iota_S128x128_d1_w32) (View.ld x0 tile6) (View.ld x1 tile6)) (View.ld d run6)⟩,
    ⟨run5, merged k (k0_pay86 (k0_pay59 (View.ld x2 whole16) (View.ld x3 whole16)) (k0_pay83 (View.ld w wholeQ) (View.ld x0 tile5) (View.ld x1 tile5)) (k0_pay84 (iota .tc S128x128 32 [1] iota_S128x128_d1_w32)) (k0_pay85 (iota .tc S128x128 32 [1] iota_S128x128_d1_w32)) 128#32) (View.ld d run5)⟩,
    ⟨run4, merged k (k0_pay80 (View.ld w wholeQ) (k0_pay59 (View.ld x2 whole16) (View.ld x3 whole16)) (iota .tc S128x128 32 [1] iota_S128x128_d1_w32) (View.ld x0 tile4) (View.ld x1 tile4)) (View.ld d run4)⟩,
    ⟨run3, merged k (k0_pay77 (k0_pay59 (View.ld x2 whole16) (View.ld x3 whole16)) (k0_pay74 (View.ld w wholeQ) (View.ld x0 tile3) (View.ld x1 tile3)) (k0_pay75 (iota .tc S128x128 32 [1] iota_S128x128_d1_w32)) (k0_pay76 (iota .tc S128x128 32 [1] iota_S128x128_d1_w32)) 128#32) (View.ld d run3)⟩,
    ⟨run2, merged k (k0_pay71 (View.ld w wholeQ) (k0_pay59 (View.ld x2 whole16) (View.ld x3 whole16)) (iota .tc S128x128 32 [1] iota_S128x128_d1_w32) (View.ld x0 tile2) (View.ld x1 tile2)) (View.ld d run2)⟩,
    ⟨run1, merged k (k0_pay68 (k0_pay59 (View.ld x2 whole16) (View.ld x3 whole16)) (k0_pay65 (View.ld w wholeQ) (View.ld x0 tile1) (View.ld x1 tile1)) (k0_pay66 (iota .tc S128x128 32 [1] iota_S128x128_d1_w32)) (k0_pay67 (iota .tc S128x128 32 [1] iota_S128x128_d1_w32)) 128#32) (View.ld d run1)⟩,
    ⟨run0, merged k (k0_pay62 (View.ld w wholeQ) (k0_pay59 (View.ld x2 whole16) (View.ld x3 whole16)) (iota .tc S128x128 32 [1] iota_S128x128_d1_w32) (View.ld x0 tile0) (View.ld x1 tile0)) (View.ld d run0)⟩]

/-- The sixteen runs cover the buffer. -/
theorem cover_words (p0 p1 p2 p3 p4 p5 p6 p7 p8 p9 p10 p11 p12 p13 p14 p15 : Vec F S1x128 .i32) (y : S1x2048.Idx) :
    ∃ pc ∈ ([⟨run15, p0⟩, ⟨run14, p1⟩, ⟨run13, p2⟩, ⟨run12, p3⟩, ⟨run11, p4⟩, ⟨run10, p5⟩, ⟨run9, p6⟩, ⟨run8, p7⟩, ⟨run7, p8⟩, ⟨run6, p9⟩, ⟨run5, p10⟩, ⟨run4, p11⟩, ⟨run3, p12⟩, ⟨run2, p13⟩, ⟨run1, p14⟩, ⟨run0, p15⟩] : List (View.Piece (Elt F) S1x2048 .i32)), y ∈ pc.1.set :=
  View.cover_of_tiled [⟨run15, p0⟩, ⟨run14, p1⟩, ⟨run13, p2⟩, ⟨run12, p3⟩, ⟨run11, p4⟩, ⟨run10, p5⟩, ⟨run9, p6⟩, ⟨run8, p7⟩, ⟨run7, p8⟩, ⟨run6, p9⟩, ⟨run5, p10⟩, ⟨run4, p11⟩, ⟨run3, p12⟩, ⟨run2, p13⟩, ⟨run1, p14⟩, ⟨run0, p15⟩] S1x128.size (by rfl) y

/-- At the first grid row nothing of the old contents stays. -/
theorem words_reset (x0 x1 : Vec F S2048x128 .fp8e4m3) (x2 x3 : Vec F S16x128 .f32) (w : Vec F S128x256 .bf16) (d d' : Vec F S1x2048 .i32) :
    words 0#32 x0 x1 x2 x3 w d = words 0#32 x0 x1 x2 x3 w d' := rfl

/-- The whole of the offsets and of the window of cuts. -/
abbrev wholeO : Rect S354x128 := Rect.unit (s := S354x128) ![0, 0] S354x128.size inb_S354x128_S354x128_0_0
abbrev wholeM : Rect S8x128 := Rect.unit (s := S8x128) ![0, 0] S8x128.size inb_S8x128_S8x128_0_0

/-- The quotient rounded down, as the body computes it. -/
def floorDiv (n d : BitVec 32) : BitVec 32 :=
  Scalar.select (Scalar.andi (Scalar.cmpi .ne (Scalar.subi (Scalar.extui (Scalar.cmpi .sgt n 0#32)) (Scalar.extui (Scalar.cmpi .slt n 0#32)))
      (Scalar.subi (Scalar.extui (Scalar.cmpi .sgt d 0#32)) (Scalar.extui (Scalar.cmpi .slt d 0#32)))) (Scalar.cmpi .ne (Scalar.remsi n d) 0#32))
    (Scalar.subi (Scalar.divsi n d) 1#32) (Scalar.divsi n d)

/-- How many of the offsets lie below `b`. -/
def countBelow (off : IVec S354x128 32) (b : BitVec 32) : BitVec 32 :=
  extractAt ![0, 0, 0] (shapeCast S1x1x1 (multiReductionI .add [1, 2] S1 (shapeCast S1x354x128 (select (cmpi .slt off (broadcast S354x128 b))
    (broadcast S354x128 1#32) (broadcast S354x128 0#32)) shapeCasts_S354x128_S1x354x128) 0#32 reduces_S1x354x128_S1 rfl) shapeCasts_S1_S1x1x1) inpos_S1x1x1_p0_0_0

/-- The row of cuts after the first `n` of them are written: lane 32 holds the number of documents from the start. -/
def cutRow (off : IVec S354x128 32) : Nat → IVec S1x128 32
  | 0 => select (cmpi .eq (iota .tc S1x128 32 [1] iota_S1x128_d1_w32) (broadcast S1x128 32#32)) (broadcast S1x128 45000#32) (broadcast S1x128 0#32)
  | n + 1 => select (cmpi .eq (iota .tc S1x128 32 [1] iota_S1x128_d1_w32) (broadcast S1x128 (BitVec.ofNat 32 (n + 1))))
      (broadcast S1x128 (Scalar.minsi (Scalar.muli (floorDiv (countBelow off (BitVec.ofNat 32 (93750 * (n + 1)))) 8#32) 8#32) 45000#32)) (cutRow off n)

/-- The window of cuts and of placed queries, as the first grid point leaves it. -/
def metaOf (x4 : Vec F S64x128 .bf16) (x5 : Vec F S354x128 .i32) : Vec F S8x128 .i32 :=
  k0_pay58 (k0_pay7 (k0_pay5 (F := F) (View.ld x4 wholeq)) k0_pay6) (cutRow (k0_pay8 (F := F) (View.ld x5 wholeO)) 31)

end Cert.Table.Run

end
-- ==== Proof.Table.RunFirst.lean ====
/-
  The table kernel's body at the first grid point.
-/
module

public import proofs.«01_k».proof.Proof.Table.Runs
public import Idealize.ShloMosaic.Lib.Pipeline.Value

@[expose] public section

set_option maxRecDepth 16384

noncomputable section

namespace Cert.Table.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal Cert.TablesIdeal.Gen

variable {F : FTy → Type} [FloatOps F]

local notation "𝕄" => MT nD τ sig Unit (Elt F) ℕ (UR sig nD τ) ℕ

set_option maxHeartbeats 4000000 in
/-- The body at the first grid point: it builds the query matrix and keeps it, and leaves the table window's buffer at
    `out` of it, the word window's is
    left at `words` of what it held; the window of cuts is left at `metaOf`. -/
theorem run_first (c : Dev nD) (i : grid0.Coords) (arg2 : Memref sig .tc .vmem S2048x128 .fp8e4m3) (harg2 : arg2.IsWhole) (arg3 : Memref sig .tc .vmem S2048x128 .fp8e4m3) (harg3 : arg3.IsWhole) (arg4 : Memref sig .tc .vmem S16x128 .f32) (harg4 : arg4.IsWhole) (arg5 : Memref sig .tc .vmem S16x128 .f32) (harg5 : arg5.IsWhole) (arg6 : Memref sig .tc .vmem S64x128 .bf16) (harg6 : arg6.IsWhole) (arg7 : Memref sig .tc .vmem S354x128 .i32) (harg7 : arg7.IsWhole) (arg8 : Memref sig .tc .vmem S2048x128 .f32) (harg8 : arg8.IsWhole) (arg9 : Memref sig .tc .vmem S1x2048 .i32) (harg9 : arg9.IsWhole) (arg10 : Memref sig .tc .vmem S8x128 .i32) (harg10 : arg10.IsWhole) (arg11 : Memref sig .tc .vmem S128x256 .bf16) (harg11 : arg11.IsWhole) (hc0 : cond0_0 i)
    (x0 : Vec F S2048x128 .fp8e4m3) (x1 : Vec F S2048x128 .fp8e4m3) (x2 : Vec F S16x128 .f32) (x3 : Vec F S16x128 .f32) (x4 : Vec F S64x128 .bf16) (x5 : Vec F S354x128 .i32) (d7 : Vec F S1x2048 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out x0 x1 x2 x3 (kept x4)) ∗ owns (c : Thread nD τ) arg9 fullShare (words (BitVec.ofNat 32 (i 1)) x0 x1 x2 x3 (kept x4) d7) ∗ owns (c : Thread nD τ) arg10 fullShare (metaOf x4 x5) ∗ owns (c : Thread nD τ) arg11 fullShare (kept x4)) -∗ K ⟨⟩))
          ⊢ wp frame (wpE (defs₀ (F := F)) Variants.none c none) E (cc0_score_table i arg2 harg2 arg3 harg3 arg4 harg4 arg5 harg5 arg6 harg6 arg7 harg7 arg8 harg8 arg9 harg9 arg10 harg10 arg11 harg11) K := by
    intro E K
    simp only [cc0_score_table_eq_skeleton]; unfold cc0_score_table_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%ds0, %fs0, -, HS0⟩, Hk⟩
    subst hf0 hf1 hf2 hf3 hf4 hf5 hf7
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      refine (View.read_writes_eq_canon _ _ _ (cover _ _ _ _ _ _ _ _ _ _ _ _ _ _ _ _)).trans ?_
      refine Eq.trans ?_ (congrArg (out _ _ _ _) (View.canon_unit_zero (S := S128x256) (off := ![0, 0]) (funext fun a => by fin_cases a <;> rfl) inb_S128x256_S128x256_0_0 (kept _)))
      rw [← View.read_writes_junk_eq_canon arg11.view]
      rfl
    isplitl [H7]
    · iexists _; isplitr; swap; · iexact H7
      ipureintro
      refine (View.read_writes_eq_canon _ _ _ (cover_words _ _ _ _ _ _ _ _ _ _ _ _ _ _ _ _)).trans ?_
      refine Eq.trans ?_ (congrArg (fun w => words _ _ _ _ _ w _) (View.canon_unit_zero (S := S128x256) (off := ![0, 0]) (funext fun a => by fin_cases a <;> rfl) inb_S128x256_S128x256_0_0 (kept _)))
      rw [← View.read_writes_junk_eq_canon arg11.view]
      rfl
    isplitl [H8]
    · iexists _; isplitr; swap; · iexact H8
      ipureintro
      refine Eq.trans (View.read_writes_eq_canon _ _ _ fun y => ⟨_, List.mem_singleton_self _,
        View.mem_set_unit_zero (S := S8x128) (off := ![0, 0]) (funext fun a => by fin_cases a <;> rfl) inb_S8x128_S8x128_0_0 y⟩) ?_
      refine Eq.trans (View.canon_unit_zero (S := S8x128) (off := ![0, 0]) (funext fun a => by fin_cases a <;> rfl) inb_S8x128_S8x128_0_0 _) ?_
      rfl
    iexists _; isplitr; swap; · iexact HS0
    ipureintro
    show View.read (Elt F) arg11.view (arg11.view.writes (Elt F) fs0 [⟨wholeQ, kept (View.read (Elt F) arg6.view f4)⟩]) = _
    refine Eq.trans (View.read_writes_eq_canon _ _ _ fun y => ⟨_, List.mem_singleton_self _,
      View.mem_set_unit_zero (S := S128x256) (off := ![0, 0]) (funext fun a => by fin_cases a <;> rfl) inb_S128x256_S128x256_0_0 y⟩)
      (View.canon_unit_zero (S := S128x256) (off := ![0, 0]) (funext fun a => by fin_cases a <;> rfl) inb_S128x256_S128x256_0_0 (kept _))

end Cert.Table.Run

end
-- ==== Proof.Table.RunLater.lean ====
/-
  The table kernel's body at the later grid points.
-/
module

public import proofs.«01_k».proof.Proof.Table.Runs
public import Idealize.ShloMosaic.Lib.Pipeline.Value

@[expose] public section

set_option maxRecDepth 16384

noncomputable section

namespace Cert.Table.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal Cert.TablesIdeal.Gen

variable {F : FTy → Type} [FloatOps F]

local notation "𝕄" => MT nD τ sig Unit (Elt F) ℕ (UR sig nD τ) ℕ

set_option maxHeartbeats 4000000 in
/-- The body at any later grid point: the query matrix `w` it finds kept stays, and the table window's buffer is left at
    `out` of it, the word window's is
    left at `words` of what it held; the window of cuts stays as it was. -/
theorem run_later (c : Dev nD) (i : grid0.Coords) (arg2 : Memref sig .tc .vmem S2048x128 .fp8e4m3) (harg2 : arg2.IsWhole) (arg3 : Memref sig .tc .vmem S2048x128 .fp8e4m3) (harg3 : arg3.IsWhole) (arg4 : Memref sig .tc .vmem S16x128 .f32) (harg4 : arg4.IsWhole) (arg5 : Memref sig .tc .vmem S16x128 .f32) (harg5 : arg5.IsWhole) (arg6 : Memref sig .tc .vmem S64x128 .bf16) (harg6 : arg6.IsWhole) (arg7 : Memref sig .tc .vmem S354x128 .i32) (harg7 : arg7.IsWhole) (arg8 : Memref sig .tc .vmem S2048x128 .f32) (harg8 : arg8.IsWhole) (arg9 : Memref sig .tc .vmem S1x2048 .i32) (harg9 : arg9.IsWhole) (arg10 : Memref sig .tc .vmem S8x128 .i32) (harg10 : arg10.IsWhole) (arg11 : Memref sig .tc .vmem S128x256 .bf16) (harg11 : arg11.IsWhole) (hc0 : ¬cond0_0 i)
    (x0 : Vec F S2048x128 .fp8e4m3) (x1 : Vec F S2048x128 .fp8e4m3) (x2 : Vec F S16x128 .f32) (x3 : Vec F S16x128 .f32) (x4 : Vec F S64x128 .bf16) (x5 : Vec F S354x128 .i32) (d7 : Vec F S1x2048 .i32) (d8 : Vec F S8x128 .i32) (w : Vec F S128x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare d7 ∗ owns (c : Thread nD τ) arg10 fullShare d8 ∗ owns (c : Thread nD τ) arg11 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out x0 x1 x2 x3 w) ∗ owns (c : Thread nD τ) arg9 fullShare (words (BitVec.ofNat 32 (i 1)) x0 x1 x2 x3 w d7) ∗ owns (c : Thread nD τ) arg10 fullShare d8 ∗ owns (c : Thread nD τ) arg11 fullShare w) -∗ K ⟨⟩))
          ⊢ wp frame (wpE (defs₀ (F := F)) Variants.none c none) E (cc0_score_table i arg2 harg2 arg3 harg3 arg4 harg4 arg5 harg5 arg6 harg6 arg7 harg7 arg8 harg8 arg9 harg9 arg10 harg10 arg11 harg11) K := by
    intro E K
    simp only [cc0_score_table_eq_skeleton]; unfold cc0_score_table_skel
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, Hk⟩
    subst hf0 hf1 hf2 hf3 hf4 hf5 hf7 hf8 hfs0
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      refine (View.read_writes_eq_canon _ _ _ (cover _ _ _ _ _ _ _ _ _ _ _ _ _ _ _ _)).trans ?_
      rfl
    isplitl [H7]
    · iexists _; isplitr; swap; · iexact H7
      ipureintro
      refine (View.read_writes_eq_canon _ _ _ (cover_words _ _ _ _ _ _ _ _ _ _ _ _ _ _ _ _)).trans ?_
      rfl
    isplitl [H8]
    · iexists _; isplitr; · ipureintro; rfl
      iexact H8
    iexists _; isplitr; swap; · iexact HS0
    ipureintro; rfl

end Cert.Table.Run

end
-- ==== Proof.Table.Frame.lean ====
/-
  The table kernel's run: at each grid point the table window's buffer is left at `out` of that point's blocks and of
  the query matrix the first point kept, the word window's at what the points of its row up to this one set, and the
  window of cuts at what the first point wrote.
-/
module

public import proofs.«01_k».proof.Proof.Table.RunFirst
public import proofs.«01_k».proof.Proof.Table.RunLater
public import Idealize.ShloMosaic.Lib.Claim

@[expose] public section

set_option maxRecDepth 16384

noncomputable section

namespace Cert.Table.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TablesIdeal Cert.TablesIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- There is no output window nothing is said about. -/
def forgets0 : Fin 9 → Bool := fun _ => false

theorem index4 : ∀ t : Fin cfg0.N, win0_4.index t 0 = 0 ∧ win0_4.index t 1 = 0 :=
  (by decide +kernel : ∀ t : Fin grid0.N, win0_4.index t 0 = 0 ∧ win0_4.index t 1 = 0)

/-- The window of the queries is the whole array of them, at every point. -/
theorem block4 (c : Dev nD) (t : Fin cfg0.N) : (iblk m c 4 t : Vec F S64x128 .bf16) = V m c main_v1 := by
  funext j
  refine congrArg (V m c main_v1 : Vec F S64x128 .bf16) (funext fun a => Fin.ext ?_)
  obtain ⟨h0, h1⟩ := index4 t
  fin_cases a
  · exact (win0_4.rect_emb_val t j 0).trans (by rw [h0]; show 0 * 64 + (j 0 : Nat) = (j 0 : Nat); omega)
  · exact (win0_4.rect_emb_val t j 1).trans (by rw [h1]; show 0 * 128 + (j 1 : Nat) = (j 1 : Nat); omega)

/-- The query matrix kept from the first point on. -/
def matrix (c : Dev nD) : Vec F S128x256 .bf16 := kept (V m c main_v1 : Vec F S64x128 .bf16)

theorem kept_eq (c : Dev nD) (t : Fin cfg0.N) : kept (iblk m c 4 t : Vec F S64x128 .bf16) = matrix m c := by
  rw [block4, matrix]

theorem index5 : ∀ t : Fin cfg0.N, win0_5.index t 0 = 0 ∧ win0_5.index t 1 = 0 :=
  (by decide +kernel : ∀ t : Fin grid0.N, win0_5.index t 0 = 0 ∧ win0_5.index t 1 = 0)

/-- The window of the offsets is the whole array of them, at every point. -/
theorem block5 (c : Dev nD) (t : Fin cfg0.N) : (iblk m c 5 t : Vec F S354x128 .i32) = V m c main_v2 := by
  funext j
  refine congrArg (V m c main_v2 : Vec F S354x128 .i32) (funext fun a => Fin.ext ?_)
  obtain ⟨h0, h1⟩ := index5 t
  fin_cases a
  · exact (win0_5.rect_emb_val t j 0).trans (by rw [h0]; show 0 * 354 + (j 0 : Nat) = (j 0 : Nat); omega)
  · exact (win0_5.rect_emb_val t j 1).trans (by rw [h1]; show 0 * 128 + (j 1 : Nat) = (j 1 : Nat); omega)

/-- What the first point leaves in the window of cuts. -/
def cutsOf (c : Dev nD) : Vec F S8x128 .i32 := metaOf (V m c main_v1 : Vec F S64x128 .bf16) (V m c main_v2 : Vec F S354x128 .i32)

theorem metaOf_eq (c : Dev nD) (t : Fin cfg0.N) :
    metaOf (iblk m c 4 t : Vec F S64x128 .bf16) (iblk m c 5 t : Vec F S354x128 .i32) = cutsOf m c := by
  rw [block4, block5, cutsOf]

/-- Grid point `n`. -/
def pt (n : Nat) : Fin cfg0.N := ⟨n % 32, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- What grid point `t` leaves in the word window's buffer if it finds `d` there. -/
def wordsAt (c : Dev nD) (t : Fin cfg0.N) (d : Vec F S1x2048 .i32) : Vec F S1x2048 .i32 :=
  words (BitVec.ofNat 32 (grid0.coords t 1)) (iblk m c 0 t) (iblk m c 1 t) (iblk m c 2 t) (iblk m c 3 t) (matrix m c) d

/-- What grid point `n` leaves in the word window's buffer. -/
def wordsUpTo (c : Dev nD) : Nat → Vec F S1x2048 .i32
  | 0 => wordsAt m c (pt 0) fun _ => 0#32
  | n + 1 => wordsAt m c (pt (n + 1)) (wordsUpTo c n)

theorem coord1 (t : Fin cfg0.N) : (grid0.coords t 1).val = t.val % 8 := by
  rw [show (grid0.coords t 1).val = t.val / 1 % 8 from Pipeline.Grid.coords_val t 1 (by decide) rfl, Nat.div_one]

/-- The first point of a row takes nothing over from what it finds. -/
theorem wordsAt_reset (c : Dev nD) (t : Fin cfg0.N) (h : t.val % 8 = 0) (d d' : Vec F S1x2048 .i32) :
    wordsAt m c t d = wordsAt m c t d' := by
  unfold wordsAt
  rw [coord1, h]
  exact words_reset _ _ _ _ _ d d'

/-- What holds between the points: before the first one the scratch buffer holds anything, after it the query matrix. -/
def carried (c : Dev nD) (n : Nat) : sProp 𝕄 :=
  if n = 0 then Pipeline.ΦA spec0 c
  else iprop(owns (c : Thread nD τ) scM0_0 fullShare (matrix m c) ∗ (∃ r, prngReg c r))

theorem carried_zero (c : Dev nD) : (carried m c 0 : sProp 𝕄) = Pipeline.ΦA spec0 c := if_pos rfl
theorem carried_pos (c : Dev nD) {n : Nat} (h : n ≠ 0) :
    (carried m c n : sProp 𝕄) = iprop(owns (c : Thread nD τ) scM0_0 fullShare (matrix m c) ∗ (∃ r, prngReg c r)) := if_neg h

/-- The proof data: each input's buffer at its block, the table window's buffer at `out`, the
    word window's at the words so far, the window of cuts at what the first point wrote. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (iblk m c 0 t) (iblk m c 1 t) (iblk m c 2 t) (iblk m c 3 t) (matrix m c)
    | ⟨7, _⟩ => wordsUpTo m c t.val
    | ⟨8, _⟩ => cutsOf m c
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out (iblk m c 0 t) (iblk m c 1 t) (iblk m c 2 t) (iblk m c 3 t) (matrix m c) := by dsimp only [dats]

theorem after0_7 (c : Dev nD) (t : Fin cfg0.N) : (dats m 0 c).after 7 t = wordsUpTo m c t.val := by dsimp only [dats]
theorem after0_8 (c : Dev nD) (t : Fin cfg0.N) : (dats m 0 c).after 8 t = cutsOf m c := by dsimp only [dats]

/-- The body turns what it finds in the word window's buffer into the words so far. -/
theorem wordsAt_before (c : Dev nD) (t : Fin cfg0.N) (d) :
    wordsAt m c t ((dats m 0 c).before 7 t d) = wordsUpTo m c t.val := by
  have hN : t.val < 32 := lt_of_lt_of_eq t.isLt (show cfg0.N = 32 from N_0)
  by_cases h : t.val % 8 = 0
  · rcases Nat.eq_zero_or_pos t.val with h0 | hp
    · rw [h0, wordsUpTo, show pt 0 = t from by rw [← h0]; exact pt_val t]
      exact wordsAt_reset m c t h _ _
    · obtain ⟨n, hn⟩ : ∃ n, t.val = n + 1 := ⟨t.val - 1, by omega⟩
      rw [hn, wordsUpTo, show pt (n + 1) = t from by rw [← hn]; exact pt_val t]
      exact wordsAt_reset m c t h _ _
  · obtain ⟨n, hn⟩ : ∃ n, t.val = n + 1 := ⟨t.val - 1, by omega⟩
    have hfl : (cfg0.win 7).flush ⟨t.val - 1, Nat.lt_of_le_of_lt (Nat.sub_le _ _) t.isLt⟩ = false := by
      rw [Bool.eq_false_iff]
      intro hf
      have := (flush0_7 _).mp hf
      change (t.val - 1) % 8 = 7 at this
      omega
    rw [(dats m 0 c).before_out_kept 7 rfl t (by omega) hfl (fun _ => rfl) (fun _ _ => rfl) d, after0_7]
    show wordsAt m c t (wordsUpTo m c (t.val - 1)) = _
    rw [hn, Nat.add_sub_cancel, wordsUpTo, show pt (n + 1) = t from by rw [← hn]; exact pt_val t]

theorem idle8 (t : Fin cfg0.N) : cfg0.idle 8 (grid0.coords t) = !(k0_cond1 (grid0.coords t) == 1#1) := rfl

/-- The first point writes the window of cuts. -/
theorem idle8_first (t : Fin cfg0.N) (h : t.val % 32 = 0) : cfg0.idle 8 (grid0.coords t) = false := by
  rw [idle8, (hcond0_0 t).mpr h]; rfl

/-- No later point does. -/
theorem idle8_later (t : Fin cfg0.N) (h : ¬ t.val % 32 = 0) : cfg0.idle 8 (grid0.coords t) = true := by
  rw [idle8, show (k0_cond1 (grid0.coords t) == 1#1) = false from
    beq_eq_false_iff_ne.mpr fun he => h ((hcond0_0 t).mp he)]; rfl

/-- After the first point the window of cuts holds what that point wrote. -/
theorem before0_8 (c : Dev nD) (d) : ∀ (n : Nat) (h : n + 1 < cfg0.N), (dats m 0 c).before 8 ⟨n + 1, h⟩ d = cutsOf m c := by
  intro n
  induction n with
  | zero =>
    intro h
    rw [(dats m 0 c).before_of_pos 8 ⟨1, h⟩ (Nat.one_ne_zero) ((cfg0.win 8).fetch_out rfl _)]
    have hf : (cfg0.win 8).flush ⟨0, Nat.lt_of_succ_lt h⟩ = false := by
      rw [Bool.eq_false_iff]; intro hf; have := (flush0_8 _).mp hf; simp at this
    show (if (cfg0.win 8).flush ⟨0, Nat.lt_of_succ_lt h⟩ then d else (dats m 0 c).left 8 ⟨0, Nat.lt_of_succ_lt h⟩ d) = _
    rw [hf, if_neg Bool.false_ne_true]
    unfold Dat.left
    rw [idle8_first _ rfl]
    show (dats m 0 c).kept 8 _ d = _
    unfold Dat.kept
    rw [Pipeline.fill_of_clip_none (cfg := cfg0) 8 _ (fun _ => rfl) d ((dats m 0 c).after 8 _), Window.fill_cut, after0_8]
  | succ n ih =>
    intro h
    have hN : n + 2 < 32 := lt_of_lt_of_eq h (show cfg0.N = 32 from N_0)
    rw [(dats m 0 c).before_of_pos 8 ⟨n + 1 + 1, h⟩ (Nat.succ_ne_zero _) ((cfg0.win 8).fetch_out rfl _)]
    have hf : (cfg0.win 8).flush ⟨n + 1, Nat.lt_of_succ_lt h⟩ = false := by
      rw [Bool.eq_false_iff]; intro hf; have := (flush0_8 _).mp hf; simp only at this; omega
    show (if (cfg0.win 8).flush ⟨n + 1, Nat.lt_of_succ_lt h⟩ then d else (dats m 0 c).left 8 ⟨n + 1, Nat.lt_of_succ_lt h⟩ d) = _
    rw [hf, if_neg Bool.false_ne_true]
    unfold Dat.left
    rw [idle8_later _ (by simp only; omega)]
    exact ih _

theorem before8 (c : Dev nD) (t : Fin cfg0.N) (h : ¬ t.val % 32 = 0) (d) : (dats m 0 c).before 8 t d = cutsOf m c := by
  obtain ⟨n, hn⟩ : ∃ n, t.val = n + 1 := ⟨t.val - 1, by omega⟩
  rw [show t = ⟨n + 1, hn ▸ t.isLt⟩ from Fin.ext hn]
  exact before0_8 m c d n _

/-- After the first point the window of cuts is left as that point wrote it. -/
theorem leaves8_later (c : Dev nD) (t : Fin cfg0.N) (h : ¬ t.val % 32 = 0) :
    (owns (c : Thread nD τ) (ms0_8 t) fullShare (cutsOf m c) : sProp 𝕄) ⊢ (dats m 0 c).leavesExact 8 t := by
  cases hf : (cfg0.win 8).flush t with
  | true =>
    unfold Dat.leavesExact
    rw [idle8_later t h, hf]
    exact .rfl
  | false =>
    rw [(dats m 0 c).leavesExact_idle 8 t (idle8_later t h) hf]
    iintro H
    iexists (cutsOf m c)
    rw [before8 m c t h]
    iexact H

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The table window and the word window are never idle. -/
theorem liveAt0_6 : ∀ t : Fin cfg0.N, cfg0.idle 6 (grid0.coords t) = false := fun _ => rfl
theorem liveAt0_7 : ∀ t : Fin cfg0.N, cfg0.idle 7 (grid0.coords t) = false := fun _ => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point: `run_first` at the first, `run_later` at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = carried m c (t.val + 1) from rfl, carried_pos m c (Nat.succ_ne_zero _)]
  rw [show (dats m 0 c).Φ t.castSucc = carried m c t.val from rfl]
  have hN : t.val < 32 := lt_of_lt_of_eq t.isLt (show cfg0.N = 32 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  by_cases h0 : t.val % 32 = 0
  · rw [show (dats m 0 c).leavesExact 8 t = owns (c : Thread nD τ) (ms0_8 t) fullShare ((dats m 0 c).after 8 t) from by
        unfold Dat.leavesExact; rw [idle8_first t h0], after0_8]
    rw [show carried m c t.val = carried m c 0 from by rw [show t.val = 0 by omega], carried_zero, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hrun := run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) ((dats m 0 c).before 7 t d7) Set.univ
    rw [kept_eq m c t, metaOf_eq m c t] at hrun
    have e7 : words (BitVec.ofNat 32 (grid0.coords t 1)) (iblk m c 0 t) (iblk m c 1 t) (iblk m c 2 t) (iblk m c 3 t) (matrix m c)
      ((dats m 0 c).before 7 t d7) = wordsUpTo m c t.val := wordsAt_before m c t d7
    rw [e7] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [carried_pos m c (show t.val ≠ 0 by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hrun := run_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) ((dats m 0 c).before 7 t d7) ((dats m 0 c).before 8 t d8) (matrix m c) Set.univ
    rw [before8 m c t h0] at hrun
    have e7 : words (BitVec.ofNat 32 (grid0.coords t 1)) (iblk m c 0 t) (iblk m c 1 t) (iblk m c 2 t) (iblk m c 3 t) (matrix m c)
      ((dats m 0 c).before 7 t d7) = wordsUpTo m c t.val := wordsAt_before m c t d7
    rw [e7] at hrun
    rw [before8 m c t h0]
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leaves8_later m c t h0)
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem enter (c : Dev nD) : (Pipeline.ΦA spec0 c : sProp 𝕄) ⊢ (dats m 0 c).Φ 0 := by
  rw [show (dats m 0 c).Φ 0 = carried m c 0 from rfl, carried_zero]

theorem leave (c : Dev nD) : (dats m 0 c).Φ (Fin.last cfg0.N) ⊢ (Pipeline.ΦA spec0 c : sProp 𝕄) := by
  rw [show (dats m 0 c).Φ (Fin.last cfg0.N) = carried m c cfg0.N from rfl,
    carried_pos m c (show cfg0.N ≠ 0 from fun h => absurd (N_0.symm.trans h) (by decide)), PhiA0_eq]
  iintro ⟨HS0, Hg⟩
  isplitl [HS0]
  · iexists _; iexact HS0
  iexact Hg

set_option backward.isDefEq.respectTransparency.types false in
/-- The launch: every array as the proof data says, and every semaphore counter at zero, at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := enter m) (hout := leave m)

/-- The three result arrays' final contents, and the arguments. -/
theorem values : θ_run defs (onTc (τ := τ) (main (F := F))) ⟨m, fun _ => 0, ρ⟩ (fun r => ∀ c : Dev nD,
      r.2.mem ((c.tc : Thread nD τ).loc main_v4_0) = (dats m 0 c).arrAt 6 cfg0.N
      ∧ r.2.mem ((c.tc : Thread nD τ).loc main_v4_1) = (dats m 0 c).arrAt 7 cfg0.N
      ∧ r.2.mem ((c.tc : Thread nD τ).loc main_v4_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Dat.toRForget_arrAt_iff (dat := dats m 0 c) (fgt := forgets0) (w := 6) rfl cfg0.N _).mp ((h.1 c).1 6),
      (Dat.toRForget_arrAt_iff (dat := dats m 0 c) (fgt := forgets0) (w := 7) rfl cfg0.N _).mp ((h.1 c).1 7),
      (Dat.toRForget_arrAt_iff (dat := dats m 0 c) (fgt := forgets0) (w := 8) rfl cfg0.N _).mp ((h.1 c).1 8),
      ((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main_quiescent m ρ)

/-- The run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2.2.2) (values m ρ)) ((θ_run defs _ _).mono (fun _ h => h.2) (run_main_quiescent m ρ))

end Cert.Table.Run

end
-- ==== Proof.TableBits.Runs.lean ====
/-
  The table kernel's body: the branch it takes at the first grid point only, the buffers it works on, and what it
  leaves in the table window's buffer.

  This module is about the program as it is; Proof/Table/Runs.lean says the same of the program at exact arithmetic.
-/
module

public import proofs.«01_k».proof.Proof.Gen.Tables.Frame
public import proofs.«01_k».proof.Proof.Gen.Tables.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.TableBits.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables Cert.Tables.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x128 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S354x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .i32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S128x256 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body leaves in the table window's buffer -/

/-- The sixteen tiles of 128 rows the body stores, one after the other. -/
abbrev tile0 : Rect S2048x128 := Rect.unit (s := S2048x128) ![0, 0] S128x128.size inb_S2048x128_S128x128_0_0
abbrev tile1 : Rect S2048x128 := Rect.unit (s := S2048x128) ![128, 0] S128x128.size inb_S2048x128_S128x128_128_0
abbrev tile2 : Rect S2048x128 := Rect.unit (s := S2048x128) ![256, 0] S128x128.size inb_S2048x128_S128x128_256_0
abbrev tile3 : Rect S2048x128 := Rect.unit (s := S2048x128) ![384, 0] S128x128.size inb_S2048x128_S128x128_384_0
abbrev tile4 : Rect S2048x128 := Rect.unit (s := S2048x128) ![512, 0] S128x128.size inb_S2048x128_S128x128_512_0
abbrev tile5 : Rect S2048x128 := Rect.unit (s := S2048x128) ![640, 0] S128x128.size inb_S2048x128_S128x128_640_0
abbrev tile6 : Rect S2048x128 := Rect.unit (s := S2048x128) ![768, 0] S128x128.size inb_S2048x128_S128x128_768_0
abbrev tile7 : Rect S2048x128 := Rect.unit (s := S2048x128) ![896, 0] S128x128.size inb_S2048x128_S128x128_896_0
abbrev tile8 : Rect S2048x128 := Rect.unit (s := S2048x128) ![1024, 0] S128x128.size inb_S2048x128_S128x128_1024_0
abbrev tile9 : Rect S2048x128 := Rect.unit (s := S2048x128) ![1152, 0] S128x128.size inb_S2048x128_S128x128_1152_0
abbrev tile10 : Rect S2048x128 := Rect.unit (s := S2048x128) ![1280, 0] S128x128.size inb_S2048x128_S128x128_1280_0
abbrev tile11 : Rect S2048x128 := Rect.unit (s := S2048x128) ![1408, 0] S128x128.size inb_S2048x128_S128x128_1408_0
abbrev tile12 : Rect S2048x128 := Rect.unit (s := S2048x128) ![1536, 0] S128x128.size inb_S2048x128_S128x128_1536_0
abbrev tile13 : Rect S2048x128 := Rect.unit (s := S2048x128) ![1664, 0] S128x128.size inb_S2048x128_S128x128_1664_0
abbrev tile14 : Rect S2048x128 := Rect.unit (s := S2048x128) ![1792, 0] S128x128.size inb_S2048x128_S128x128_1792_0
abbrev tile15 : Rect S2048x128 := Rect.unit (s := S2048x128) ![1920, 0] S128x128.size inb_S2048x128_S128x128_1920_0
/-- The whole of a scale window and of the query matrix, as the body loads them. -/
abbrev whole16 : Rect S16x128 := Rect.unit (s := S16x128) ![0, 0] S16x128.size inb_S16x128_S16x128_0_0
abbrev wholeQ : Rect S128x256 := Rect.unit (s := S128x256) ![0, 0] S128x256.size inb_S128x256_S128x256_0_0
abbrev wholeq : Rect S64x128 := Rect.unit (s := S64x128) ![0, 0] S64x128.size inb_S64x128_S64x128_0_0

/-- The query matrix the first grid point keeps for all of them. -/
def kept (x4 : Vec F S64x128 .bf16) : Vec F S128x256 .bf16 := k0_pay4 (View.ld x4 wholeq)

/-- The table window's buffer after the body, from the blocks of codes and scales and the query matrix `w` kept:
    the sixteen stores, the last one first. -/
def out (x0 x1 : Vec F S2048x128 .fp8e4m3) (x2 x3 : Vec F S16x128 .f32) (w : Vec F S128x256 .bf16) : Vec F S2048x128 .f32 :=
  View.canon [⟨tile15, k0_pay131 (k0_pay59 (View.ld x2 whole16) (View.ld x3 whole16)) (k0_pay128 (View.ld w wholeQ) (View.ld x0 tile15) (View.ld x1 tile15)) (k0_pay129 (iota .tc S128x128 32 [1] iota_S128x128_d1_w32)) (k0_pay130 (iota .tc S128x128 32 [1] iota_S128x128_d1_w32)) 128#32⟩,
    ⟨tile14, k0_pay125 (View.ld w wholeQ) (k0_pay59 (View.ld x2 whole16) (View.ld x3 whole16)) (iota .tc S128x128 32 [1] iota_S128x128_d1_w32) (View.ld x0 tile14) (View.ld x1 tile14)⟩,
    ⟨tile13, k0_pay122 (k0_pay59 (View.ld x2 whole16) (View.ld x3 whole16)) (k0_pay119 (View.ld w wholeQ) (View.ld x0 tile13) (View.ld x1 tile13)) (k0_pay120 (iota .tc S128x128 32 [1] iota_S128x128_d1_w32)) (k0_pay121 (iota .tc S128x128 32 [1] iota_S128x128_d1_w32)) 128#32⟩,
    ⟨tile12, k0_pay116 (View.ld w wholeQ) (k0_pay59 (View.ld x2 whole16) (View.ld x3 whole16)) (iota .tc S128x128 32 [1] iota_S128x128_d1_w32) (View.ld x0 tile12) (View.ld x1 tile12)⟩,
    ⟨tile11, k0_pay113 (k0_pay59 (View.ld x2 whole16) (View.ld x3 whole16)) (k0_pay110 (View.ld w wholeQ) (View.ld x0 tile11) (View.ld x1 tile11)) (k0_pay111 (iota .tc S128x128 32 [1] iota_S128x128_d1_w32)) (k0_pay112 (iota .tc S128x128 32 [1] iota_S128x128_d1_w32)) 128#32⟩,
    ⟨tile10, k0_pay107 (View.ld w wholeQ) (k0_pay59 (View.ld x2 whole16) (View.ld x3 whole16)) (iota .tc S128x128 32 [1] iota_S128x128_d1_w32) (View.ld x0 tile10) (View.ld x1 tile10)⟩,
    ⟨tile9, k0_pay104 (k0_pay59 (View.ld x2 whole16) (View.ld x3 whole16)) (k0_pay101 (View.ld w wholeQ) (View.ld x0 tile9) (View.ld x1 tile9)) (k0_pay102 (iota .tc S128x128 32 [1] iota_S128x128_d1_w32)) (k0_pay103 (iota .tc S128x128 32 [1] iota_S128x128_d1_w32)) 128#32⟩,
    ⟨tile8, k0_pay98 (View.ld w wholeQ) (k0_pay59 (View.ld x2 whole16) (View.ld x3 whole16)) (iota .tc S128x128 32 [1] iota_S128x128_d1_w32) (View.ld x0 tile8) (View.ld x1 tile8)⟩,
    ⟨tile7, k0_pay95 (k0_pay59 (View.ld x2 whole16) (View.ld x3 whole16)) (k0_pay92 (View.ld w wholeQ) (View.ld x0 tile7) (View.ld x1 tile7)) (k0_pay93 (iota .tc S128x128 32 [1] iota_S128x128_d1_w32)) (k0_pay94 (iota .tc S128x128 32 [1] iota_S128x128_d1_w32)) 128#32⟩,
    ⟨tile6, k0_pay89 (View.ld w wholeQ) (k0_pay59 (View.ld x2 whole16) (View.ld x3 whole16)) (iota .tc S128x128 32 [1] iota_S128x128_d1_w32) (View.ld x0 tile6) (View.ld x1 tile6)⟩,
    ⟨tile5, k0_pay86 (k0_pay59 (View.ld x2 whole16) (View.ld x3 whole16)) (k0_pay83 (View.ld w wholeQ) (View.ld x0 tile5) (View.ld x1 tile5)) (k0_pay84 (iota .tc S128x128 32 [1] iota_S128x128_d1_w32)) (k0_pay85 (iota .tc S128x128 32 [1] iota_S128x128_d1_w32)) 128#32⟩,
    ⟨tile4, k0_pay80 (View.ld w wholeQ) (k0_pay59 (View.ld x2 whole16) (View.ld x3 whole16)) (iota .tc S128x128 32 [1] iota_S128x128_d1_w32) (View.ld x0 tile4) (View.ld x1 tile4)⟩,
    ⟨tile3, k0_pay77 (k0_pay59 (View.ld x2 whole16) (View.ld x3 whole16)) (k0_pay74 (View.ld w wholeQ) (View.ld x0 tile3) (View.ld x1 tile3)) (k0_pay75 (iota .tc S128x128 32 [1] iota_S128x128_d1_w32)) (k0_pay76 (iota .tc S128x128 32 [1] iota_S128x128_d1_w32)) 128#32⟩,
    ⟨tile2, k0_pay71 (View.ld w wholeQ) (k0_pay59 (View.ld x2 whole16) (View.ld x3 whole16)) (iota .tc S128x128 32 [1] iota_S128x128_d1_w32) (View.ld x0 tile2) (View.ld x1 tile2)⟩,
    ⟨tile1, k0_pay68 (k0_pay59 (View.ld x2 whole16) (View.ld x3 whole16)) (k0_pay65 (View.ld w wholeQ) (View.ld x0 tile1) (View.ld x1 tile1)) (k0_pay66 (iota .tc S128x128 32 [1] iota_S128x128_d1_w32)) (k0_pay67 (iota .tc S128x128 32 [1] iota_S128x128_d1_w32)) 128#32⟩,
    ⟨tile0, k0_pay62 (View.ld w wholeQ) (k0_pay59 (View.ld x2 whole16) (View.ld x3 whole16)) (iota .tc S128x128 32 [1] iota_S128x128_d1_w32) (View.ld x0 tile0) (View.ld x1 tile0)⟩]

/-- The sixteen tiles cover the buffer. -/
theorem cover (p0 p1 p2 p3 p4 p5 p6 p7 p8 p9 p10 p11 p12 p13 p14 p15 : Vec F S128x128 .f32) (y : S2048x128.Idx) :
    ∃ pc ∈ ([⟨tile15, p0⟩, ⟨tile14, p1⟩, ⟨tile13, p2⟩, ⟨tile12, p3⟩, ⟨tile11, p4⟩, ⟨tile10, p5⟩, ⟨tile9, p6⟩, ⟨tile8, p7⟩, ⟨tile7, p8⟩, ⟨tile6, p9⟩, ⟨tile5, p10⟩, ⟨tile4, p11⟩, ⟨tile3, p12⟩, ⟨tile2, p13⟩, ⟨tile1, p14⟩, ⟨tile0, p15⟩] : List (View.Piece (Elt F) S2048x128 .f32)), y ∈ pc.1.set :=
  View.cover_of_tiled [⟨tile15, p0⟩, ⟨tile14, p1⟩, ⟨tile13, p2⟩, ⟨tile12, p3⟩, ⟨tile11, p4⟩, ⟨tile10, p5⟩, ⟨tile9, p6⟩, ⟨tile8, p7⟩, ⟨tile7, p8⟩, ⟨tile6, p9⟩, ⟨tile5, p10⟩, ⟨tile4, p11⟩, ⟨tile3, p12⟩, ⟨tile2, p13⟩, ⟨tile1, p14⟩, ⟨tile0, p15⟩] S128x128.size (by rfl) y

end Cert.TableBits.Run

end
-- ==== Proof.TableBits.RunFirst.lean ====
/-
  The table kernel's body at the first grid point.

  This module is about the program as it is; Proof/Table/RunFirst.lean says the same of the program at exact arithmetic.
-/
module

public import proofs.«01_k».proof.Proof.TableBits.Runs
public import Idealize.ShloMosaic.Lib.Pipeline.Value

@[expose] public section

set_option maxRecDepth 16384

noncomputable section

namespace Cert.TableBits.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables Cert.Tables.Gen

variable {F : FTy → Type} [FloatOps F]

local notation "𝕄" => MT nD τ sig Unit (Elt F) ℕ (UR sig nD τ) ℕ

set_option maxHeartbeats 4000000 in
/-- The body at the first grid point: it builds the query matrix and keeps it, and leaves the table window's buffer at
    `out` of it; what it leaves in the two windows of words is not named. -/
theorem run_first (c : Dev nD) (i : grid0.Coords) (arg2 : Memref sig .tc .vmem S2048x128 .fp8e4m3) (harg2 : arg2.IsWhole) (arg3 : Memref sig .tc .vmem S2048x128 .fp8e4m3) (harg3 : arg3.IsWhole) (arg4 : Memref sig .tc .vmem S16x128 .f32) (harg4 : arg4.IsWhole) (arg5 : Memref sig .tc .vmem S16x128 .f32) (harg5 : arg5.IsWhole) (arg6 : Memref sig .tc .vmem S64x128 .bf16) (harg6 : arg6.IsWhole) (arg7 : Memref sig .tc .vmem S354x128 .i32) (harg7 : arg7.IsWhole) (arg8 : Memref sig .tc .vmem S2048x128 .f32) (harg8 : arg8.IsWhole) (arg9 : Memref sig .tc .vmem S1x2048 .i32) (harg9 : arg9.IsWhole) (arg10 : Memref sig .tc .vmem S8x128 .i32) (harg10 : arg10.IsWhole) (arg11 : Memref sig .tc .vmem S128x256 .bf16) (harg11 : arg11.IsWhole) (hc0 : cond0_0 i)
    (x0 : Vec F S2048x128 .fp8e4m3) (x1 : Vec F S2048x128 .fp8e4m3) (x2 : Vec F S16x128 .f32) (x3 : Vec F S16x128 .f32) (x4 : Vec F S64x128 .bf16) (x5 : Vec F S354x128 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out x0 x1 x2 x3 (kept x4)) ∗ (∃ d, owns (c : Thread nD τ) arg9 fullShare d) ∗ (∃ d, owns (c : Thread nD τ) arg10 fullShare d) ∗ owns (c : Thread nD τ) arg11 fullShare (kept x4)) -∗ K ⟨⟩))
          ⊢ wp frame (wpE (defs₀ (F := F)) Variants.none c none) E (cc0_score_table i arg2 harg2 arg3 harg3 arg4 harg4 arg5 harg5 arg6 harg6 arg7 harg7 arg8 harg8 arg9 harg9 arg10 harg10 arg11 harg11) K := by
    intro E K
    simp only [cc0_score_table_eq_skeleton]; unfold cc0_score_table_skel
    simp only [k0_part26_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    subst hf0 hf1 hf2 hf3 hf4 hf5
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      refine (View.read_writes_eq_canon _ _ _ (cover _ _ _ _ _ _ _ _ _ _ _ _ _ _ _ _)).trans ?_
      refine Eq.trans ?_ (congrArg (out _ _ _ _) (View.canon_unit_zero (S := S128x256) (off := ![0, 0]) (funext fun a => by fin_cases a <;> rfl) inb_S128x256_S128x256_0_0 (kept _)))
      rw [← View.read_writes_junk_eq_canon arg11.view]
      rfl
    isplitl [H7]
    · iexists _, _; isplitr; swap; · iexact H7
      ipureintro; rfl
    isplitl [H8]
    · iexists _, _; isplitr; swap; · iexact H8
      ipureintro; rfl
    iexists _; isplitr; swap; · iexact HS0
    ipureintro
    show View.read (Elt F) arg11.view (arg11.view.writes (Elt F) fs0 [⟨wholeQ, kept (View.read (Elt F) arg6.view f4)⟩]) = _
    refine Eq.trans (View.read_writes_eq_canon _ _ _ fun y => ⟨_, List.mem_singleton_self _,
      View.mem_set_unit_zero (S := S128x256) (off := ![0, 0]) (funext fun a => by fin_cases a <;> rfl) inb_S128x256_S128x256_0_0 y⟩)
      (View.canon_unit_zero (S := S128x256) (off := ![0, 0]) (funext fun a => by fin_cases a <;> rfl) inb_S128x256_S128x256_0_0 (kept _))

end Cert.TableBits.Run

end
-- ==== Proof.TableBits.RunLater.lean ====
/-
  The table kernel's body at the later grid points.

  This module is about the program as it is; Proof/Table/RunLater.lean says the same of the program at exact arithmetic.
-/
module

public import proofs.«01_k».proof.Proof.TableBits.RunFirst

@[expose] public section

set_option maxRecDepth 16384

noncomputable section

namespace Cert.TableBits.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables Cert.Tables.Gen

variable {F : FTy → Type} [FloatOps F]

local notation "𝕄" => MT nD τ sig Unit (Elt F) ℕ (UR sig nD τ) ℕ

set_option maxHeartbeats 4000000 in
/-- The body at any later grid point: the query matrix `w` it finds kept stays, and the table window's buffer is left at
    `out` of it; what it leaves in the two windows of words is not named. -/
theorem run_later (c : Dev nD) (i : grid0.Coords) (arg2 : Memref sig .tc .vmem S2048x128 .fp8e4m3) (harg2 : arg2.IsWhole) (arg3 : Memref sig .tc .vmem S2048x128 .fp8e4m3) (harg3 : arg3.IsWhole) (arg4 : Memref sig .tc .vmem S16x128 .f32) (harg4 : arg4.IsWhole) (arg5 : Memref sig .tc .vmem S16x128 .f32) (harg5 : arg5.IsWhole) (arg6 : Memref sig .tc .vmem S64x128 .bf16) (harg6 : arg6.IsWhole) (arg7 : Memref sig .tc .vmem S354x128 .i32) (harg7 : arg7.IsWhole) (arg8 : Memref sig .tc .vmem S2048x128 .f32) (harg8 : arg8.IsWhole) (arg9 : Memref sig .tc .vmem S1x2048 .i32) (harg9 : arg9.IsWhole) (arg10 : Memref sig .tc .vmem S8x128 .i32) (harg10 : arg10.IsWhole) (arg11 : Memref sig .tc .vmem S128x256 .bf16) (harg11 : arg11.IsWhole) (hc0 : ¬cond0_0 i)
    (x0 : Vec F S2048x128 .fp8e4m3) (x1 : Vec F S2048x128 .fp8e4m3) (x2 : Vec F S16x128 .f32) (x3 : Vec F S16x128 .f32) (x4 : Vec F S64x128 .bf16) (x5 : Vec F S354x128 .i32) (w : Vec F S128x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out x0 x1 x2 x3 w) ∗ (∃ d, owns (c : Thread nD τ) arg9 fullShare d) ∗ (∃ d, owns (c : Thread nD τ) arg10 fullShare d) ∗ owns (c : Thread nD τ) arg11 fullShare w) -∗ K ⟨⟩))
          ⊢ wp frame (wpE (defs₀ (F := F)) Variants.none c none) E (cc0_score_table i arg2 harg2 arg3 harg3 arg4 harg4 arg5 harg5 arg6 harg6 arg7 harg7 arg8 harg8 arg9 harg9 arg10 harg10 arg11 harg11) K := by
    intro E K
    simp only [cc0_score_table_eq_skeleton]; unfold cc0_score_table_skel
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    subst hf0 hf1 hf2 hf3 hf4 hf5 hfs0
    sl_exec (disch := first | sl_exact hc0)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; swap; · iexact H6
      ipureintro
      refine (View.read_writes_eq_canon _ _ _ (cover _ _ _ _ _ _ _ _ _ _ _ _ _ _ _ _)).trans ?_
      rfl
    isplitl [H7]
    · iexists _, _; isplitr; swap; · iexact H7
      ipureintro; rfl
    isplitl [H8]
    · iexists _, _; isplitr; swap; · iexact H8
      ipureintro; rfl
    iexists _; isplitr; swap; · iexact HS0
    ipureintro; rfl

end Cert.TableBits.Run

end
-- ==== Proof.TableBits.Frame.lean ====
/-
  The table kernel's run: at each grid point the table window's buffer is left at `out` of that point's blocks and of
  the query matrix the first point kept; the two windows of words are left at something.

  This module is about the program as it is; Proof/Table/Frame.lean says the same of the program at exact arithmetic.
-/
module

public import proofs.«01_k».proof.Proof.TableBits.RunLater
public import Idealize.ShloMosaic.Lib.Claim

@[expose] public section

set_option maxRecDepth 16384

noncomputable section

namespace Cert.TableBits.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tables Cert.Tables.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows nothing is said about: the two windows of words. -/
def forgets0 : Fin 9 → Bool := fun w => w.val == 7 || w.val == 8

theorem index4 : ∀ t : Fin cfg0.N, win0_4.index t 0 = 0 ∧ win0_4.index t 1 = 0 :=
  (by decide +kernel : ∀ t : Fin grid0.N, win0_4.index t 0 = 0 ∧ win0_4.index t 1 = 0)

/-- The window of the queries is the whole array of them, at every point. -/
theorem block4 (c : Dev nD) (t : Fin cfg0.N) : (iblk m c 4 t : Vec F S64x128 .bf16) = V m c main_v1 := by
  funext j
  refine congrArg (V m c main_v1 : Vec F S64x128 .bf16) (funext fun a => Fin.ext ?_)
  obtain ⟨h0, h1⟩ := index4 t
  fin_cases a
  · exact (win0_4.rect_emb_val t j 0).trans (by rw [h0]; show 0 * 64 + (j 0 : Nat) = (j 0 : Nat); omega)
  · exact (win0_4.rect_emb_val t j 1).trans (by rw [h1]; show 0 * 128 + (j 1 : Nat) = (j 1 : Nat); omega)

/-- The query matrix kept from the first point on. -/
def matrix (c : Dev nD) : Vec F S128x256 .bf16 := kept (V m c main_v1 : Vec F S64x128 .bf16)

theorem kept_eq (c : Dev nD) (t : Fin cfg0.N) : kept (iblk m c 4 t : Vec F S64x128 .bf16) = matrix m c := by
  rw [block4, matrix]

/-- What holds between the points: before the first one the scratch buffer holds anything, after it the query matrix. -/
def carried (c : Dev nD) (n : Nat) : sProp 𝕄 :=
  if n = 0 then Pipeline.ΦA spec0 c
  else iprop(owns (c : Thread nD τ) scM0_0 fullShare (matrix m c) ∗ (∃ r, prngReg c r))

theorem carried_zero (c : Dev nD) : (carried m c 0 : sProp 𝕄) = Pipeline.ΦA spec0 c := if_pos rfl
theorem carried_pos (c : Dev nD) {n : Nat} (h : n ≠ 0) :
    (carried m c n : sProp 𝕄) = iprop(owns (c : Thread nD τ) scM0_0 fullShare (matrix m c) ∗ (∃ r, prngReg c r)) := if_neg h

/-- The proof data: each input's buffer at its block, the table window's buffer at `out`, the words' at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out (iblk m c 0 t) (iblk m c 1 t) (iblk m c 2 t) (iblk m c 3 t) (matrix m c)
    | ⟨7, h⟩ => Pipeline.Dat.unnamed (cfg := cfg0) ⟨7, h⟩ t
    | ⟨8, h⟩ => Pipeline.Dat.unnamed (cfg := cfg0) ⟨8, h⟩ t
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out (iblk m c 0 t) (iblk m c 1 t) (iblk m c 2 t) (iblk m c 3 t) (matrix m c) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The table window is never idle. -/
theorem liveAt0_6 : ∀ t : Fin cfg0.N, cfg0.idle 6 (grid0.coords t) = false := fun _ => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d))

set_option maxHeartbeats 1600000 in
/-- The body at any point: `run_first` at the first, `run_later` at the others. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = carried m c (t.val + 1) from rfl, carried_pos m c (Nat.succ_ne_zero _)]
  rw [show (dats m 0 c).Φ t.castSucc = carried m c t.val from rfl]
  have hN : t.val < 32 := lt_of_lt_of_eq t.isLt (show cfg0.N = 32 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  by_cases h0 : t.val % 32 = 0
  · rw [show t.val = 0 by omega, carried_zero, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hrun := run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) Set.univ
    rw [kept_eq m c t] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [carried_pos m c (show t.val ≠ 0 by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (matrix m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, H6, H7, H8, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem enter (c : Dev nD) : (Pipeline.ΦA spec0 c : sProp 𝕄) ⊢ (dats m 0 c).Φ 0 := by
  rw [show (dats m 0 c).Φ 0 = carried m c 0 from rfl, carried_zero]

theorem leave (c : Dev nD) : (dats m 0 c).Φ (Fin.last cfg0.N) ⊢ (Pipeline.ΦA spec0 c : sProp 𝕄) := by
  rw [show (dats m 0 c).Φ (Fin.last cfg0.N) = carried m c cfg0.N from rfl,
    carried_pos m c (show cfg0.N ≠ 0 from fun h => absurd (N_0.symm.trans h) (by decide)), PhiA0_eq]
  iintro ⟨HS0, Hg⟩
  isplitl [HS0]
  · iexists _; iexact HS0
  iexact Hg

set_option backward.isDefEq.respectTransparency.types false in
/-- The launch: every array as the proof data says, and every semaphore counter at zero, at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := enter m) (hout := leave m)

/-- The table array's final contents, and the arguments. -/
theorem values : θ_run defs (onTc (τ := τ) (main (F := F))) ⟨m, fun _ => 0, ρ⟩ (fun r => ∀ c : Dev nD,
      r.2.mem ((c.tc : Thread nD τ).loc main_v4_0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Dat.toRForget_arrAt_iff (dat := dats m 0 c) (fgt := forgets0) (w := 6) rfl cfg0.N _).mp ((h.1 c).1 6),
      ((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main_quiescent m ρ)

/-- The run ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (values m ρ)) ((θ_run defs _ _).mono (fun _ h => h.2) (run_main_quiescent m ρ))

end Cert.TableBits.Run

end
-- ==== Proof.Table.Spec.lean ====
/-
  The score table as one function of the arguments: what both programs are shown to return.
-/
module

public import Idealize.ShloMosaic.Lib.MatmulPlain
public import Idealize.ShloMosaic.Lib.Pointwise.Index

@[expose] public section
noncomputable section
namespace Cert.Table
open Idealize.ShloMosaic

/-- The queries, the codes and the scales. -/
abbrev Queries := (⟨2, ![64, 128]⟩ : Shape).Idx → EReal
abbrev Codes := (⟨2, ![131072, 128]⟩ : Shape).Idx → EReal
abbrev Scales := (⟨1, ![131072]⟩ : Shape).Idx → EReal

/-- The square of a query's length. -/
def norm (q : Queries) (n : Fin 64) : EReal := ∑ k : Fin 128, q (ix2 n k) * q (ix2 n k)

/-- Query `a` stands before query `b`: it is longer, or as long and earlier. -/
def Before (q : Queries) (a b : Fin 64) : Prop := norm q b < norm q a ∨ (norm q a = norm q b ∧ a < b)

open Classical in
/-- The place of a query: how many queries stand before it. -/
def place (q : Queries) (n : Fin 64) : Nat := (Finset.univ.filter fun a => Before q a n).card

theorem Before.trans {q : Queries} {a b c : Fin 64} (h : Before q a b) (h' : Before q b c) : Before q a c := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem Before.irrefl (q : Queries) (a : Fin 64) : ¬ Before q a a := by
  rintro (h | ⟨-, h⟩) <;> exact lt_irrefl _ h

theorem Before.total (q : Queries) {a b : Fin 64} (h : a ≠ b) : Before q a b ∨ Before q b a := by
  rcases lt_trichotomy (norm q a) (norm q b) with l | l | l
  · exact .inr (.inl l)
  · rcases lt_or_gt_of_ne h with k | k
    · exact .inl (.inr ⟨l, k⟩)
    · exact .inr (.inr ⟨l.symm, k⟩)
  · exact .inl (.inl l)

theorem place_lt_of_before {q : Queries} {a b : Fin 64} (h : Before q a b) : place q a < place q b := by
  classical
  refine Finset.card_lt_card (Finset.ssubset_iff_of_subset ?_ |>.mpr ⟨a, ?_, ?_⟩)
  · intro x hx
    exact Finset.mem_filter.mpr ⟨Finset.mem_univ _, (Finset.mem_filter.mp hx).2.trans h⟩
  · exact Finset.mem_filter.mpr ⟨Finset.mem_univ _, h⟩
  · intro hx
    exact Before.irrefl q a (Finset.mem_filter.mp hx).2

theorem place_lt (q : Queries) (n : Fin 64) : place q n < 64 := by
  classical
  have h : n ∉ Finset.univ.filter fun a => Before q a n := fun hx => Before.irrefl q n (Finset.mem_filter.mp hx).2
  exact (Finset.card_lt_univ_of_notMem h).trans_eq (Fintype.card_fin 64)

theorem place_bijective (q : Queries) : Function.Bijective fun n : Fin 64 => (⟨place q n, place_lt q n⟩ : Fin 64) := by
  refine Finite.injective_iff_bijective.mp fun a b h => ?_
  by_contra hne
  have e : place q a = place q b := congrArg Fin.val h
  rcases Before.total q hne with l | l
  · exact absurd e (place_lt_of_before l).ne
  · exact absurd e (place_lt_of_before l).ne'

/-- The query in place `p`. -/
def placed (q : Queries) (p : Fin 64) : Fin 64 := (Equiv.ofBijective _ (place_bijective q)).symm p

theorem place_eq_iff (q : Queries) (n p : Fin 64) : place q n = p.val ↔ n = placed q p := by
  rw [placed, Equiv.eq_symm_apply, Fin.ext_iff]
  rfl

/-- A sum over the queries that picks the one in place `p`. -/
theorem sum_place (q : Queries) (p : Fin 64) (f : Fin 64 → EReal) :
    (∑ n : Fin 64, if place q n = p.val then f n else 0) = f (placed q p) := by
  have e : ∀ n, (if place q n = p.val then f n else 0) = if n = placed q p then f n else 0 :=
    fun n => if_congr (place_eq_iff q n p) rfl rfl
  rw [Finset.sum_congr rfl fun n _ => e n, Finset.sum_ite_eq' Finset.univ (placed q p) f, if_pos (Finset.mem_univ _)]

/-- The centroid whose scores lie in row `i`, lane `l` of the table: two centroids to a row, `i` in the lanes below 64
    and `65536 + i` in the lanes from 64 on. -/
def centroid (i : Fin 65536) (l : Fin 128) : Fin 131072 := ⟨if l.val < 64 then i.val else 65536 + i.val, by split <;> omega⟩

/-- The place a lane belongs to. -/
def lane (l : Fin 128) : Fin 64 := ⟨l.val % 64, Nat.mod_lt _ (by decide)⟩

/-- The score of centroid `c` for query `n`: their inner product times the centroid's scale, less the threshold, and
    not below zero. -/
def score (q : Queries) (codes : Codes) (scale : Scales) (c : Fin 131072) (n : Fin 64) : EReal :=
  max ((∑ k : Fin 128, codes (ix2 c k) * q (ix2 n k)) * scale (ix1 c) - Ideal.ofBits .f32 0x3EE66666#32) 0

/-- The table: the queries in the order of their places. -/
def table (q : Queries) (codes : Codes) (scale : Scales) : (⟨2, ![65536, 128]⟩ : Shape).Idx → EReal :=
  fun i => score q codes scale (centroid (i 0) (i 1)) (placed q (lane (i 1)))

end Cert.Table
end
-- ==== Proof.Table.Words.lean ====
/-
  The order of the queries as words of one bit: what both programs compute for a pair of queries is whether the one
  stands before the other.
-/
module

public import proofs.«01_k».proof.Proof.Table.Spec
public import Idealize.ShloMosaic.PureOps

@[expose] public section
noncomputable section
namespace Cert.Table
open Idealize.ShloMosaic

theorem slt_index (a b : Fin 64) : IntOp.cmpi .slt (BitVec.ofNat 32 a.val) (BitVec.ofNat 32 b.val) = BitVec.ofBool (decide (a < b)) := by
  revert a b
  decide +kernel

theorem bool_words (x y z : Bool) : (BitVec.ofBool x ||| (BitVec.ofBool y &&& BitVec.ofBool z)) = BitVec.ofBool (x || (y && z)) := by
  revert x y z
  decide

theorem mask_words (x y : EReal) (a b : Fin 64) :
    IntOp.ori (Ideal.cmp .ogt x y) (IntOp.andi (Ideal.cmp .oeq x y) (IntOp.cmpi .slt (BitVec.ofNat 32 a.val) (BitVec.ofNat 32 b.val)))
      = BitVec.ofBool (decide (y < x) || (decide (x = y) && decide (a < b))) := by
  rw [slt_index]
  exact bool_words _ _ _

open Classical in
theorem before_words (q : Queries) (a b : Fin 64) :
    IntOp.ori (Ideal.cmp .ogt (norm q a) (norm q b))
      (IntOp.andi (Ideal.cmp .oeq (norm q a) (norm q b)) (IntOp.cmpi .slt (BitVec.ofNat 32 a.val) (BitVec.ofNat 32 b.val)))
      = if Before q a b then 1#1 else 0#1 := by
  rw [mask_words]
  by_cases h : Before q a b
  · rw [if_pos h]
    have : (decide (norm q b < norm q a) || (decide (norm q a = norm q b) && decide (a < b))) = true := by
      rcases h with h | ⟨h, l⟩
      · simp [h]
      · simp [h, l]
    rw [this]; rfl
  · rw [if_neg h]
    have : (decide (norm q b < norm q a) || (decide (norm q a = norm q b) && decide (a < b))) = false := by
      rw [Bool.eq_false_iff]
      intro t
      refine h ?_
      simpa [Before] using t
    rw [this]; rfl

end Cert.Table
end
-- ==== Proof.Table.Select.lean ====
/-
  The matrix the body picks the queries with: row `p` of it is one at the query in place `p` and zero elsewhere.
-/
module

public import proofs.«01_k».proof.Proof.Table.Words
public import proofs.«01_k».proof.Proof.Gen.TablesIdeal.Skeleton
public import Idealize.ShloMosaic.Lib.Pipeline.Value
public import Idealize.ShloMosaic.Lib.Pointwise.Tactic
public import Idealize.ShloMosaic.Lib.Pointwise.Reduce
public import Idealize.ShloMosaic.Lib.MatmulPlain

@[expose] public section
noncomputable section
namespace Cert.Table
open Idealize.ShloMosaic Idealize.SL.Sem Cert.TablesIdeal Cert.TablesIdeal.Gen

/-- The squared lengths as the body computes them, in one row. -/
def norms (q : Vec Ideal S64x128 .bf16) : FVec Ideal S1x64 .f32 :=
  extractStridedSlice S1x64 ![0, 0]
    (matmul dot_S8x128_S64x128_S8x64_1_1_0_0_n_n none (broadcast S8x128 (Scalar.ofBits (F := Ideal) .bf16 0x3F80#16))
      (truncf .bf16 (mulf (extf .f32 q bitsLt_bf16_f32) (extf .f32 q bitsLt_bf16_f32)) bitsLt_bf16_f32 : FVec Ideal S64x128 .bf16)
      (constant S8x64 .f32 0x00000000#32))
    slices_S8x64_o0_0_S1x64

/-- A row of ones times the transpose of `y`: the sums of `y`'s rows. -/
theorem ones_row (y : FVec Ideal S64x128 .bf16) (n : Fin 64) :
    FloatOps.matmul (F := Ideal) (DotDims.transposedRhs 8 128 64) none (φ₁ := .bf16) (φ₂ := .bf16)
      (fun _ => (1 : EReal) : FVec Ideal S8x128 .bf16) y (fun _ => (0 : EReal) : FVec Ideal S8x64 .f32) (ix2 0 n) = ∑ k : Fin 128, y (ix2 n k) := by
  refine (Ideal.matmul_transposedRhs_apply (M := 8) (K := 128) (N := 64) (φ₁ := .bf16) (φ₂ := .bf16) none
    (fun _ => (1 : EReal) : FVec Ideal S8x128 .bf16) y (fun _ => (0 : EReal) : FVec Ideal S8x64 .f32) 0 n).trans ?_
  refine (zero_add _).trans ?_
  exact Finset.sum_congr rfl fun k _ => one_mul _

theorem norms_apply (q : Vec Ideal S64x128 .bf16) (n : Fin 64) : norms q (ix2 0 n) = norm q n := by
  have z1 : (broadcast S8x128 (Scalar.ofBits .bf16 0x3F80#16) : FVec Ideal S8x128 .bf16) = fun _ => 1 :=
    funext fun _ => Ideal.ofBits_one_bf16
  have z0 : (constant S8x64 .f32 0x00000000#32 : FVec Ideal S8x64 .f32) = fun _ => 0 := funext fun _ => Ideal.ofBits_zero_f32
  refine Eq.trans ?_ (ones_row (fun i => q i * q i) n)
  unfold norms
  rw [z1, z0]
  exact extractStridedSlice_apply _ _ _ (ix2 0 n) (ix2 0 n) (by
    intro a
    fin_cases a
    · rfl
    · show n.val = 0 + n.val
      omega)

/-- Which query stands before which, as the body computes it. -/
def mask (q : Vec Ideal S64x128 .bf16) : IVec S64x64 1 :=
  ori (cmpf .ogt (transpose S64x64 [1, 0] (broadcastTo S64x64 (norms q) broadcasts_S1x64_S64x64) transposes_S64x64_p1_0_S64x64)
      (broadcastTo S64x64 (norms q) broadcasts_S1x64_S64x64))
    (andi (cmpf .oeq (transpose S64x64 [1, 0] (broadcastTo S64x64 (norms q) broadcasts_S1x64_S64x64) transposes_S64x64_p1_0_S64x64)
        (broadcastTo S64x64 (norms q) broadcasts_S1x64_S64x64))
      (cmpi .slt (iota .tc S64x64 32 [0] iota_S64x64_d0_w32) (iota .tc S64x64 32 [1] iota_S64x64_d1_w32)))

open Classical in
theorem mask_apply (q : Vec Ideal S64x128 .bf16) (a b : Fin 64) : mask q (ix2 a b) = if Before q a b then 1#1 else 0#1 := by
  have e : mask q (ix2 a b) = IntOp.ori (Ideal.cmp .ogt (norms q (ix2 0 a)) (norms q (ix2 0 b)))
      (IntOp.andi (Ideal.cmp .oeq (norms q (ix2 0 a)) (norms q (ix2 0 b))) (IntOp.cmpi .slt (BitVec.ofNat 32 a.val) (BitVec.ofNat 32 b.val))) := by
    unfold mask
    pointwise
    rfl
  rw [e, norms_apply, norms_apply, before_words]

/-- The places as the body computes them, in one row. -/
def places (q : Vec Ideal S64x128 .bf16) : FVec Ideal S64 .f32 :=
  multiReduction .add [0] S64 (select (mask q) (broadcast S64x64 (Scalar.ofBits (F := Ideal) .f32 0x3F800000#32))
    (broadcast S64x64 (Scalar.ofBits (F := Ideal) .f32 0x00000000#32))) 0x00000000#32 reduces_S64x64_S64 (.inl rfl) rfl

theorem places_apply (q : Vec Ideal S64x128 .bf16) (n : Fin 64) : places q (ix1 n) = (place q n : EReal) := by
  classical
  unfold places
  pointwise
  have e : ∀ a : Fin 64, Scalar.select (mask q (ix2 a n)) (1 : EReal) 0 = if Before q a n then 1 else 0 := by
    intro a
    rw [mask_apply]
    split <;> rfl
  refine (Finset.sum_congr rfl fun a _ => e a).trans ?_
  rw [← Finset.sum_filter, Finset.sum_const, nsmul_one]
  rfl

theorem pay3_eq (q : Vec Ideal S64x128 .bf16) : k0_pay3 q = truncf .bf16
    (select (cmpf .oeq (sitofp .f32 (iota .tc S64x64 32 [0] iota_S64x64_d0_w32)) (broadcastTo S64x64 (shapeCast S1x64 (places q) shapeCasts_S64_S1x64) broadcasts_S1x64_S64x64))
      (broadcast S64x64 (Scalar.ofBits (F := Ideal) .f32 0x3F800000#32)) (broadcast S64x64 (Scalar.ofBits (F := Ideal) .f32 0x00000000#32))) bitsLt_bf16_f32 := by
  unfold k0_pay3 k0_pay2
  rw [shapeCast_self]
  dsimp only
  rw [shapeCast_self]
  rfl

theorem pay3_apply (q : Vec Ideal S64x128 .bf16) (p n : Fin 64) : k0_pay3 q (ix2 p n) = if place q n = p.val then 1 else 0 := by
  have e : shapeCast S1x64 (places q) shapeCasts_S64_S1x64 (ix2 0 n) = places q (ix1 n) :=
    shapeCast_apply (s := S64) (t := S1x64) _ _ (ix2 0 n) (ix1 n) (by
      rw [Shape.rowMajor_val_one, Shape.rowMajor_val_two]
      show n.val = 0 * 64 + n.val
      omega)
  have i : (FloatOps.sitofp .f32 (BitVec.ofNat 32 p.val) : Ideal .f32) = ((p.val : ℝ) : EReal) := by
    show (((BitVec.ofNat 32 p.val).toInt : ℝ) : EReal) = _
    rw [show (BitVec.ofNat 32 p.val).toInt = (p.val : Int) by revert p; decide, Int.cast_natCast]
  rw [pay3_eq]
  pointwise
  rw [e, places_apply, i]
  have h : (((p.val : ℝ) : EReal) = (place q n : EReal)) ↔ place q n = p.val := by
    rw [EReal.coe_natCast, EReal.natCast_eq_iff]
    exact eq_comm
  show Scalar.select (BitVec.ofBool (decide (((p.val : ℝ) : EReal) = (place q n : EReal)))) (1 : EReal) 0 = _
  by_cases hp : place q n = p.val
  · rw [decide_eq_true (h.mpr hp), if_pos hp]; rfl
  · rw [decide_eq_false (mt h.mp hp), if_neg hp]; rfl

end Cert.Table
end
-- ==== Proof.Table.Product.lean ====
/-
  One tile of the table as the body computes it: the product of a tile of codes with the query matrix it keeps, times
  the scales it picks, less the threshold, and not below zero.
-/
module

public import proofs.«01_k».proof.Proof.Table.Select
public import Idealize.ShloMosaic.Lib.Pointwise.SelectCore

@[expose] public section
noncomputable section
namespace Cert.Table
open Idealize.ShloMosaic Idealize.SL.Sem Cert.TablesIdeal Cert.TablesIdeal.Gen

/-! ## The query matrix -/

/-- The first and the second half of the contracted axis. -/
def lo (k : Fin 128) : Fin 256 := ⟨k.val, by omega⟩
def hi (k : Fin 128) : Fin 256 := ⟨128 + k.val, by omega⟩

/-- The queries in the order of their places. -/
def ordered (q : Vec Ideal S64x128 .bf16) : Vec Ideal S64x128 .bf16 := fun i => q (ix2 (placed q (i 0)) (i 1))

/-- The query matrix the body builds from `y`, twice as wide and twice as high: `y` in the top left and the bottom
    right quarter, zeros in the two others. -/
def diagQ (y : Vec Ideal S64x128 .bf16) : Vec Ideal S128x256 .bf16 :=
  concatenate S128x256 0
    [⟨S64x256, concatenate S64x256 1 [⟨S64x128, y⟩, ⟨S64x128, fun _ => 0⟩] concatenates_S64x128_S64x128_S64x256_d1⟩,
      ⟨S64x256, concatenate S64x256 1 [⟨S64x128, fun _ => 0⟩, ⟨S64x128, y⟩] concatenates_S64x128_S64x128_S64x256_d1⟩]
    concatenates_S64x256_S64x256_S128x256_d0

/-- The selection matrix times the queries: the queries in the order of their places. -/
theorem ordered_eq (q : Vec Ideal S64x128 .bf16) :
    (matmul dot_S64x64_S64x128_S64x128_1_0_0_1_n_n none (φ₁ := .bf16) (φ₂ := .bf16) (k0_pay3 q) q (constant S64x128 .f32 0x00000000#32) : FVec Ideal S64x128 .f32)
      = ordered q := by
  funext i
  obtain ⟨p, k, rfl⟩ : ∃ (p : Fin 64) (k : Fin 128), i = ix2 p k := ⟨i 0, i 1, eq_ix2 i⟩
  have z : (constant S64x128 .f32 0x00000000#32 : FVec Ideal S64x128 .f32) = fun _ => 0 := funext fun _ => Ideal.ofBits_zero_f32
  rw [z]
  refine (Ideal.matmul_plain_apply (M := 64) (K := 64) (N := 128) (φ₁ := .bf16) (φ₂ := .bf16) none (k0_pay3 q) q
    (fun _ => (0 : EReal) : FVec Ideal S64x128 .f32) p k).trans ?_
  refine (zero_add _).trans ?_
  refine Eq.trans (Finset.sum_congr rfl fun n _ => ?_) (sum_place q p fun n => q (ix2 n k))
  show k0_pay3 q (ix2 p n) * q (ix2 n k) = _
  rw [pay3_apply]
  split
  · exact one_mul _
  · exact zero_mul _

/-- The query matrix the body keeps. -/
theorem pay4_eq (q : Vec Ideal S64x128 .bf16) : k0_pay4 q = diagQ (ordered q) := by
  have z : (broadcast S64x128 (Scalar.ofBits .bf16 0x0000#16) : FVec Ideal S64x128 .bf16) = fun _ => 0 :=
    funext fun _ => Ideal.ofBits_zero_bf16
  unfold k0_pay4 diagQ
  dsimp only
  rw [← ordered_eq q, shapeCast_self, z]
  unfold k0_pay2
  rw [shapeCast_self]
  rfl

/-- Two pieces side by side, read in the left one. -/
theorem beside_lo {n : Nat} (x y : (⟨2, ![n, 128]⟩ : Shape).Idx → EReal) (h) (r : Fin n) (k : Fin 128) :
    concatenate (⟨2, ![n, 256]⟩ : Shape) 1 [⟨⟨2, ![n, 128]⟩, x⟩, ⟨⟨2, ![n, 128]⟩, y⟩] h (ix2 r (lo k)) = x (ix2 r k) :=
  concatenate_pair_apply_left (t := ⟨2, ![n, 256]⟩) (s₁ := ⟨2, ![n, 128]⟩) (s₂ := ⟨2, ![n, 128]⟩) 1 x y h (ix2 r (lo k)) rfl
    (ix2 r k) (by intro b; fin_cases b <;> rfl)

/-- Two pieces side by side, read in the right one. -/
theorem beside_hi {n : Nat} (x y : (⟨2, ![n, 128]⟩ : Shape).Idx → EReal) (h) (r : Fin n) (k : Fin 128) :
    concatenate (⟨2, ![n, 256]⟩ : Shape) 1 [⟨⟨2, ![n, 128]⟩, x⟩, ⟨⟨2, ![n, 128]⟩, y⟩] h (ix2 r (hi k)) = y (ix2 r k) :=
  concatenate_pair_apply_right (t := ⟨2, ![n, 256]⟩) (s₁ := ⟨2, ![n, 128]⟩) (s₂ := ⟨2, ![n, 128]⟩) 1 x y h (ix2 r (hi k)) rfl rfl
    (ix2 r k) (by intro b hb; fin_cases b <;> first | rfl | exact absurd rfl hb)
    (by show k.val + 128 = 128 + k.val; omega)

/-- Two pieces of 64 rows one above the other, read in the upper one. -/
theorem above_lt {n : Nat} (x y : (⟨2, ![64, n]⟩ : Shape).Idx → EReal) (h) (l : Fin 128) (hl : l.val < 64) (k : Fin n) :
    concatenate (⟨2, ![128, n]⟩ : Shape) 0 [⟨⟨2, ![64, n]⟩, x⟩, ⟨⟨2, ![64, n]⟩, y⟩] h (ix2 l k) = x (ix2 (lane l) k) :=
  concatenate_pair_apply_left (t := ⟨2, ![128, n]⟩) (s₁ := ⟨2, ![64, n]⟩) (s₂ := ⟨2, ![64, n]⟩) 0 x y h (ix2 l k) rfl
    (ix2 (lane l) k)
    (by intro b; fin_cases b; · exact Nat.mod_eq_of_lt hl
        · rfl)

/-- Two pieces of 64 rows one above the other, read in the lower one. -/
theorem above_ge {n : Nat} (x y : (⟨2, ![64, n]⟩ : Shape).Idx → EReal) (h) (l : Fin 128) (hl : ¬ l.val < 64) (k : Fin n) :
    concatenate (⟨2, ![128, n]⟩ : Shape) 0 [⟨⟨2, ![64, n]⟩, x⟩, ⟨⟨2, ![64, n]⟩, y⟩] h (ix2 l k) = y (ix2 (lane l) k) :=
  concatenate_pair_apply_right (t := ⟨2, ![128, n]⟩) (s₁ := ⟨2, ![64, n]⟩) (s₂ := ⟨2, ![64, n]⟩) 0 x y h (ix2 l k) rfl rfl
    (ix2 (lane l) k)
    (by intro b hb; fin_cases b; · exact absurd rfl hb
        · rfl)
    (by show l.val % 64 + 64 = l.val; omega)

theorem diagQ_lo (y : Vec Ideal S64x128 .bf16) (l k : Fin 128) :
    diagQ y (ix2 l (lo k)) = if l.val < 64 then y (ix2 (lane l) k) else 0 := by
  unfold diagQ
  split
  · next h => exact (above_lt _ _ _ l h (lo k)).trans (beside_lo _ _ _ _ k)
  · next h => exact (above_ge _ _ _ l h (lo k)).trans (beside_lo _ _ _ _ k)

theorem diagQ_hi (y : Vec Ideal S64x128 .bf16) (l k : Fin 128) :
    diagQ y (ix2 l (hi k)) = if l.val < 64 then 0 else y (ix2 (lane l) k) := by
  unfold diagQ
  split
  · next h => exact (above_lt _ _ _ l h (hi k)).trans (beside_hi _ _ _ _ k)
  · next h => exact (above_ge _ _ _ l h (hi k)).trans (beside_hi _ _ _ _ k)

/-! ## The product of a tile -/

/-- The code rows of the lower and the upper half side by side. -/
def pairCodes (x0 x1 : Vec Ideal S128x128 .fp8e4m3) : Vec Ideal S128x256 .bf16 :=
  concatenate S128x256 1 [⟨S128x128, x0⟩, ⟨S128x128, x1⟩] concatenates_S128x128_S128x128_S128x256_d1

/-- The product, as the body computes it. -/
def product (w : Vec Ideal S128x256 .bf16) (x0 x1 : Vec Ideal S128x128 .fp8e4m3) : FVec Ideal S128x128 .f32 :=
  matmul dot_S128x256_S128x256_S128x128_1_1_0_0_n_n none (φ₁ := .bf16) (φ₂ := .bf16) (pairCodes x0 x1) w (constant S128x128 .f32 0x00000000#32)

theorem product_apply (y : Vec Ideal S64x128 .bf16) (x0 x1 : Vec Ideal S128x128 .fp8e4m3) (r l : Fin 128) :
    product (diagQ y) x0 x1 (ix2 r l)
      = ∑ k : Fin 128, (if l.val < 64 then x0 (ix2 r k) else x1 (ix2 r k)) * y (ix2 (lane l) k) := by
  have z : (constant S128x128 .f32 0x00000000#32 : FVec Ideal S128x128 .f32) = fun _ => 0 := funext fun _ => Ideal.ofBits_zero_f32
  have s : ∀ f : Fin 256 → EReal, ∑ k, f k = ∑ k : Fin 128, f (lo k) + ∑ k : Fin 128, f (hi k) :=
    fun f => Fin.sum_univ_add (a := 128) (b := 128) f
  unfold product
  rw [z]
  refine (Ideal.matmul_transposedRhs_apply (M := 128) (K := 256) (N := 128) (φ₁ := .bf16) (φ₂ := .bf16) none (pairCodes x0 x1) (diagQ y)
    (fun _ => (0 : EReal) : FVec Ideal S128x128 .f32) r l).trans ?_
  refine (zero_add _).trans ?_
  refine (s _).trans ?_
  rw [← Finset.sum_add_distrib]
  refine Finset.sum_congr rfl fun k _ => ?_
  show pairCodes x0 x1 (ix2 r (lo k)) * diagQ y (ix2 l (lo k)) + pairCodes x0 x1 (ix2 r (hi k)) * diagQ y (ix2 l (hi k)) = _
  rw [diagQ_lo, diagQ_hi, show pairCodes x0 x1 (ix2 r (lo k)) = x0 (ix2 r k) from beside_lo _ _ _ r k,
    show pairCodes x0 x1 (ix2 r (hi k)) = x1 (ix2 r k) from beside_hi _ _ _ r k]
  split
  · rw [mul_zero, add_zero]
  · rw [mul_zero, zero_add]

/-! ## The scales of a tile -/

/-- The lane test `lane < 64`, on the lanes there are. -/
theorem select_lane {α : Type} (l : Fin 128) (a b : α) :
    Scalar.select (IntOp.cmpi .slt (BitVec.ofNat 32 l.val) 64#32) a b = if l.val < 64 then a else b := by
  have h : IntOp.cmpi .slt (BitVec.ofNat 32 l.val) 64#32 = if l.val < 64 then 1#1 else 0#1 := by
    revert l; decide
  rw [h]; split <;> rfl

/-- Column `j` of the scales the body lays out: row `j` of the lower half's. -/
theorem scales_lo (x2 x3 : Vec Ideal S16x128 .f32) (r : Fin 128) (j : Fin 16) :
    k0_pay59 x2 x3 (ix2 r ⟨j.val, by omega⟩) = x2 (ix2 j r) := by
  have hj := j.isLt
  unfold k0_pay59
  pointwise [shapeCast_self]

/-- Column `16 + j`: row `j` of the upper half's. -/
theorem scales_hi (x2 x3 : Vec Ideal S16x128 .f32) (r : Fin 128) (j : Fin 16) :
    k0_pay59 x2 x3 (ix2 r ⟨16 + j.val, by omega⟩) = x3 (ix2 j r) := by
  have hj := j.isLt
  unfold k0_pay59
  pointwise [shapeCast_self]
  rw [dif_neg (show ¬ 16 + j.val < 16 by omega), dif_pos (show 16 + j.val - 16 < 16 by omega)]
  refine congrArg x3 (funext fun a => Fin.ext ?_)
  fin_cases a
  · show 16 + j.val - 16 = j.val
    omega
  · rfl

/-- The columns the body reads the scales at, from the two constants `a` and `b`. -/
def column (a b : BitVec 32) : IVec S128x128 32 :=
  select (cmpi .slt (iota .tc S128x128 32 [1] iota_S128x128_d1_w32) (broadcast S128x128 64#32)) (broadcast S128x128 a) (broadcast S128x128 b)

/-- One tile, as the body computes it. -/
def tile (a b : BitVec 32) (w : Vec Ideal S128x256 .bf16) (s : FVec Ideal S128x128 .f32) (x0 x1 : Vec Ideal S128x128 .fp8e4m3) :
    FVec Ideal S128x128 .f32 :=
  maximumf (subf (mulf (product w x0 x1) (dynamicGather 1 s (shapeCast S128x128 (shapeCast S128x128x1
      (select (cmpi .slt (column a b) (broadcast S128x128 0#32)) (addi (column a b) (broadcast S128x128 128#32)) (column a b))
      shapeCasts_S128x128_S128x128x1) shapeCasts_S128x128x1_S128x128)))
    (broadcast S128x128 (Scalar.ofBits .f32 0x3EE66666#32))) (broadcast S128x128 (Scalar.ofBits .f32 0x00000000#32))

theorem tile_apply (j : Fin 16) (w : Vec Ideal S128x256 .bf16) (s : FVec Ideal S128x128 .f32) (x0 x1 : Vec Ideal S128x128 .fp8e4m3)
    (r l : Fin 128) : tile (BitVec.ofNat 32 j.val) (BitVec.ofNat 32 (16 + j.val)) w s x0 x1 (ix2 r l)
      = max (product w x0 x1 (ix2 r l) * (if l.val < 64 then s (ix2 r ⟨j.val, by omega⟩) else s (ix2 r ⟨16 + j.val, by omega⟩))
          - Ideal.ofBits .f32 0x3EE66666#32) 0 := by
  have g : select (cmpi .slt (column (BitVec.ofNat 32 j.val) (BitVec.ofNat 32 (16 + j.val))) (broadcast S128x128 0#32))
      (addi (column (BitVec.ofNat 32 j.val) (BitVec.ofNat 32 (16 + j.val))) (broadcast S128x128 128#32))
      (column (BitVec.ofNat 32 j.val) (BitVec.ofNat 32 (16 + j.val))) (ix2 r l)
      = BitVec.ofNat 32 (if l.val < 64 then j.val else 16 + j.val) := by
    have c : column (BitVec.ofNat 32 j.val) (BitVec.ofNat 32 (16 + j.val)) (ix2 r l)
        = BitVec.ofNat 32 (if l.val < 64 then j.val else 16 + j.val) := by
      unfold column
      pointwise
      rw [select_lane]
      split <;> rfl
    pointwise
    rw [c]
    have n : ∀ k : Fin 32, Scalar.select (IntOp.cmpi .slt (BitVec.ofNat 32 k.val) 0#32)
        (IntOp.addi (BitVec.ofNat 32 k.val) 128#32) (BitVec.ofNat 32 k.val) = BitVec.ofNat 32 k.val := by decide
    exact n ⟨if l.val < 64 then j.val else 16 + j.val, by split <;> omega⟩
  have d : dynamicGather 1 s (shapeCast S128x128 (shapeCast S128x128x1
      (select (cmpi .slt (column (BitVec.ofNat 32 j.val) (BitVec.ofNat 32 (16 + j.val))) (broadcast S128x128 0#32))
        (addi (column (BitVec.ofNat 32 j.val) (BitVec.ofNat 32 (16 + j.val))) (broadcast S128x128 128#32))
        (column (BitVec.ofNat 32 j.val) (BitVec.ofNat 32 (16 + j.val))))
      shapeCasts_S128x128_S128x128x1) shapeCasts_S128x128x1_S128x128) (ix2 r l)
      = if l.val < 64 then s (ix2 r ⟨j.val, by omega⟩) else s (ix2 r ⟨16 + j.val, by omega⟩) := by
    rw [shapeCast_shapeCast, dynamicGather_apply, g]
    split
    · refine congrArg s (funext fun a => ?_)
      fin_cases a
      · rfl
      · refine Fin.ext ?_
        show (BitVec.ofNat 32 j.val).toNat % 128 = j.val
        rw [BitVec.toNat_ofNat]; omega
    · refine congrArg s (funext fun a => ?_)
      fin_cases a
      · rfl
      · refine Fin.ext ?_
        show (BitVec.ofNat 32 (16 + j.val)).toNat % 128 = 16 + j.val
        rw [BitVec.toNat_ofNat]; omega
  rw [← d]
  unfold tile
  pointwise

end Cert.Table
end
-- ==== Proof.Table.Block.lean ====
/-
  A grid point's block of the table: its sixteen tiles of 128 rows are the tiles of one function of the blocks read.
-/
module

public import proofs.«01_k».proof.Proof.Table.Product
public import proofs.«01_k».proof.Proof.Table.Runs

@[expose] public section
noncomputable section
namespace Cert.Table
open Idealize.ShloMosaic Idealize.SL.Sem Cert.TablesIdeal Cert.TablesIdeal.Gen Cert.Table.Run

/-- One grid point's block of the table from the blocks it reads: `x0`, `x1` the code rows of the lower and the upper
    half, `x2`, `x3` their scales (128 to a row), `q` the queries. -/
def block (x0 x1 : Vec Ideal S2048x128 .fp8e4m3) (x2 x3 : Vec Ideal S16x128 .f32) (q : Vec Ideal S64x128 .bf16) : Vec Ideal S2048x128 .f32 :=
  fun j => max ((∑ k : Fin 128, (if (j 1).val < 64 then x0 (ix2 (j 0) k) else x1 (ix2 (j 0) k)) * q (ix2 (placed q (lane (j 1))) k))
    * (if (j 1).val < 64 then x2 (ix2 ⟨(j 0).val / 128, Nat.div_lt_of_lt_mul (j 0).isLt⟩ ⟨(j 0).val % 128, Nat.mod_lt _ (by decide)⟩)
        else x3 (ix2 ⟨(j 0).val / 128, Nat.div_lt_of_lt_mul (j 0).isLt⟩ ⟨(j 0).val % 128, Nat.mod_lt _ (by decide)⟩))
    - Ideal.ofBits .f32 0x3EE66666#32) 0

/-- Where a tile of 128 rows sits in the block. -/
theorem emb_tile (o : Nat) (h : ∀ a, (![o, 0] : Fin 2 → Nat) a + S128x128.size a ≤ S2048x128.size a) (r l : Fin 128)
    (R : Fin 2048) (hR : R.val = o + r.val) :
    (Rect.unit (s := S2048x128) ![o, 0] S128x128.size h).emb (ix2 r l) = ix2 R l := by
  funext a
  fin_cases a
  · exact Fin.ext (by show o + 1 * r.val = R.val; omega)
  · exact Fin.ext (by show 0 + 1 * l.val = l.val; omega)

/-- Tile `j`, as the body computes it, is tile `j` of the block. -/
theorem tile_eq (x0 x1 : Vec Ideal S2048x128 .fp8e4m3) (x2 x3 : Vec Ideal S16x128 .f32) (q : Vec Ideal S64x128 .bf16)
    (j : Fin 16) (o : Nat) (ho : o = 128 * j.val) (h : ∀ a, (![o, 0] : Fin 2 → Nat) a + S128x128.size a ≤ S2048x128.size a) (r l : Fin 128) :
    tile (BitVec.ofNat 32 j.val) (BitVec.ofNat 32 (16 + j.val)) (k0_pay4 q) (k0_pay59 x2 x3)
        (View.ld x0 (Rect.unit (s := S2048x128) ![o, 0] S128x128.size h)) (View.ld x1 (Rect.unit (s := S2048x128) ![o, 0] S128x128.size h)) (ix2 r l)
      = block x0 x1 x2 x3 q ((Rect.unit (s := S2048x128) ![o, 0] S128x128.size h).emb (ix2 r l)) := by
  obtain ⟨R, hR⟩ : ∃ R : Fin 2048, R.val = o + r.val := ⟨⟨o + r.val, by omega⟩, rfl⟩
  have h1 : (⟨R.val / 128, Nat.div_lt_of_lt_mul R.isLt⟩ : Fin 16) = j := Fin.ext (by show R.val / 128 = j.val; omega)
  have h2 : (⟨R.val % 128, Nat.mod_lt _ (by decide)⟩ : Fin 128) = r := Fin.ext (by show R.val % 128 = r.val; omega)
  have e0 : ∀ k, View.ld x0 (Rect.unit (s := S2048x128) ![o, 0] S128x128.size h) (ix2 r k) = x0 (ix2 R k) :=
    fun k => congrArg x0 (emb_tile o h r k R hR)
  have e1 : ∀ k, View.ld x1 (Rect.unit (s := S2048x128) ![o, 0] S128x128.size h) (ix2 r k) = x1 (ix2 R k) :=
    fun k => congrArg x1 (emb_tile o h r k R hR)
  rw [emb_tile o h r l R hR, tile_apply, pay4_eq, product_apply, scales_lo, scales_hi]
  show _ = max ((∑ k : Fin 128, (if l.val < 64 then x0 (ix2 R k) else x1 (ix2 R k)) * q (ix2 (placed q (lane l)) k))
    * (if l.val < 64 then x2 (ix2 ⟨R.val / 128, _⟩ ⟨R.val % 128, _⟩) else x3 (ix2 ⟨R.val / 128, _⟩ ⟨R.val % 128, _⟩)) - _) _
  rw [h1, h2, Finset.sum_congr rfl fun k _ => congrArg (· * ordered q (ix2 (lane l) k)) (if_congr Iff.rfl (e0 k) (e1 k))]
  rfl

/-- The table window's buffer after the body is the block: each of its sixteen stores writes one tile of it. -/
theorem out_eq (x0 x1 : Vec Ideal S2048x128 .fp8e4m3) (x2 x3 : Vec Ideal S16x128 .f32) (q : Vec Ideal S64x128 .bf16) :
    out x0 x1 x2 x3 (kept q) = block x0 x1 x2 x3 q := by
  have e0 : ∀ w : Vec Ideal S128x256 .bf16, View.ld w wholeQ = w := fun w => View.ld_unit_zero (funext fun a => by fin_cases a <;> rfl) _ _
  have e1 : ∀ w : Vec Ideal S16x128 .f32, View.ld w whole16 = w := fun w => View.ld_unit_zero (funext fun a => by fin_cases a <;> rfl) _ _
  have e2 : View.ld q wholeq = q := View.ld_unit_zero (funext fun a => by fin_cases a <;> rfl) _ _
  funext y
  unfold out kept
  rw [e0, e1, e1, e2]
  refine View.canon_apply_of_pieces (block x0 x1 x2 x3 q) _ ?_ y (cover _ _ _ _ _ _ _ _ _ _ _ _ _ _ _ _ y)
  simp only [List.forall_mem_cons, List.forall_mem_nil]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun _ h => absurd h List.not_mem_nil⟩
  all_goals obtain ⟨r, l, rfl⟩ : ∃ r l : Fin 128, x = ix2 r l := ⟨x 0, x 1, eq_ix2 x⟩
  · exact tile_eq x0 x1 x2 x3 q 15 1920 rfl _ r l
  · exact tile_eq x0 x1 x2 x3 q 14 1792 rfl _ r l
  · exact tile_eq x0 x1 x2 x3 q 13 1664 rfl _ r l
  · exact tile_eq x0 x1 x2 x3 q 12 1536 rfl _ r l
  · exact tile_eq x0 x1 x2 x3 q 11 1408 rfl _ r l
  · exact tile_eq x0 x1 x2 x3 q 10 1280 rfl _ r l
  · exact tile_eq x0 x1 x2 x3 q 9 1152 rfl _ r l
  · exact tile_eq x0 x1 x2 x3 q 8 1024 rfl _ r l
  · exact tile_eq x0 x1 x2 x3 q 7 896 rfl _ r l
  · exact tile_eq x0 x1 x2 x3 q 6 768 rfl _ r l
  · exact tile_eq x0 x1 x2 x3 q 5 640 rfl _ r l
  · exact tile_eq x0 x1 x2 x3 q 4 512 rfl _ r l
  · exact tile_eq x0 x1 x2 x3 q 3 384 rfl _ r l
  · exact tile_eq x0 x1 x2 x3 q 2 256 rfl _ r l
  · exact tile_eq x0 x1 x2 x3 q 1 128 rfl _ r l
  · exact tile_eq x0 x1 x2 x3 q 0 0 rfl _ r l

/-- A block is the table's where what it reads is: row `r` of the two blocks of codes and of scales the centroids
    `i` and `65536 + i`. -/
theorem block_eq_table (q : Vec Ideal S64x128 .bf16) (codes : Codes) (scale : Scales)
    (x0 x1 : Vec Ideal S2048x128 .fp8e4m3) (x2 x3 : Vec Ideal S16x128 .f32)
    (r : Fin 2048) (l : Fin 128) (i : Fin 65536)
    (h0 : ∀ k, l.val < 64 → x0 (ix2 r k) = codes (ix2 (centroid i l) k))
    (h1 : ∀ k, ¬ l.val < 64 → x1 (ix2 r k) = codes (ix2 (centroid i l) k))
    (h2 : ∀ (a : Fin 16) (b : Fin 128), r.val = a.val * 128 + b.val → l.val < 64 → x2 (ix2 a b) = scale (ix1 (centroid i l)))
    (h3 : ∀ (a : Fin 16) (b : Fin 128), r.val = a.val * 128 + b.val → ¬ l.val < 64 → x3 (ix2 a b) = scale (ix1 (centroid i l))) :
    block x0 x1 x2 x3 q (ix2 r l) = table q codes scale (ix2 i l) := by
  have hr : r.val = r.val / 128 * 128 + r.val % 128 := by omega
  have e : block x0 x1 x2 x3 q (ix2 r l) = max ((∑ k : Fin 128, (if l.val < 64 then x0 (ix2 r k) else x1 (ix2 r k)) * q (ix2 (placed q (lane l)) k))
    * (if l.val < 64 then x2 (ix2 ⟨r.val / 128, Nat.div_lt_of_lt_mul r.isLt⟩ ⟨r.val % 128, Nat.mod_lt _ (by decide)⟩)
        else x3 (ix2 ⟨r.val / 128, Nat.div_lt_of_lt_mul r.isLt⟩ ⟨r.val % 128, Nat.mod_lt _ (by decide)⟩))
    - Ideal.ofBits .f32 0x3EE66666#32) 0 := rfl
  have e' : table q codes scale (ix2 i l) = score q codes scale (centroid i l) (placed q (lane l)) := rfl
  rw [e, e', score]
  by_cases h : l.val < 64
  · rw [if_pos h, h2 ⟨r.val / 128, _⟩ ⟨r.val % 128, _⟩ hr h]
    have hs : ∀ k : Fin 128, (if l.val < 64 then x0 (ix2 r k) else x1 (ix2 r k)) * q (ix2 (placed q (lane l)) k)
        = codes (ix2 (centroid i l) k) * q (ix2 (placed q (lane l)) k) := fun k => by rw [if_pos h, h0 k h]
    rw [Finset.sum_congr rfl fun k _ => hs k]
  · rw [if_neg h, h3 ⟨r.val / 128, _⟩ ⟨r.val % 128, _⟩ hr h]
    have hs : ∀ k : Fin 128, (if l.val < 64 then x0 (ix2 r k) else x1 (ix2 r k)) * q (ix2 (placed q (lane l)) k)
        = codes (ix2 (centroid i l) k) * q (ix2 (placed q (lane l)) k) := fun k => by rw [if_neg h, h1 k h]
    rw [Finset.sum_congr rfl fun k _ => hs k]

end Cert.Table
end
-- ==== Proof.Table.Marks.lean ====
/-
  The words of marks and the table of cuts as functions of the arguments: what both programs are shown to return beside
  the score table.
-/
module

public import proofs.«01_k».proof.Proof.Table.Spec
public import Idealize.ShloMosaic.PureOps
public import Idealize.ShloMosaic.PureOps.Reduce
public import Idealize.ShloMosaic.Lib.WordSum

@[expose] public section
noncomputable section
namespace Cert.Table
open Idealize.ShloMosaic

/-- A fold of word addition is a sum. -/
theorem fold_addi {ι : Type} (S : Finset ι) (b : BitVec 32) (f : ι → BitVec 32) : S.fold IntOp.addi b f = b + ∑ i ∈ S, f i := by
  induction S using Finset.cons_induction with
  | empty => simp
  | cons a S ha ih =>
    rw [Finset.fold_cons, Finset.sum_cons, ih]
    exact add_left_comm _ _ _

open Classical in
theorem one_word (x : EReal) : Scalar.select (Ideal.cmp .one x 0) (1 : EReal) 0 = if x ≠ 0 then 1 else 0 := by
  by_cases h : x = 0
  · rw [if_neg (not_not_intro h), h]
    show Scalar.select (BitVec.ofBool (decide ((0 : EReal) ≠ 0))) (1 : EReal) 0 = 0
    rw [decide_eq_false (not_not_intro rfl)]; rfl
  · rw [if_pos h]
    show Scalar.select (BitVec.ofBool (decide (x ≠ 0))) (1 : EReal) 0 = 1
    rw [decide_eq_true h]; rfl

open Classical in
/-- A sum of ones is above zero where one of them is there. -/
theorem sum_pos_iff {n : Nat} (P : Fin n → Prop) : (0 : EReal) < ∑ l : Fin n, (if P l then 1 else 0) ↔ ∃ l, P l := by
  constructor
  · intro h
    by_contra hn
    refine h.ne' (Finset.sum_eq_zero fun l _ => if_neg fun hl => hn ⟨l, hl⟩)
  · rintro ⟨l, hl⟩
    refine lt_of_lt_of_le zero_lt_one ?_
    have h := Finset.single_le_sum (f := fun l : Fin n => if P l then (1 : EReal) else 0) (s := Finset.univ)
      (fun l _ => by show (0 : EReal) ≤ if P l then 1 else 0; split; exacts [zero_le_one, le_rfl]) (Finset.mem_univ l)
    rwa [if_pos hl] at h

/-! ## The words of marks -/

/-- Centroid `8192 a + w` scores for one of the 32 queries in the places `32 g` and on. -/
def Hit (q : Queries) (codes : Codes) (scale : Scales) (w : Fin 8192) (a g : Nat) : Prop :=
  ∃ l : Fin 32, score q codes scale ⟨(8192 * a + w.val) % 131072, Nat.mod_lt _ (by decide)⟩
    (placed q ⟨(32 * g + l.val) % 64, Nat.mod_lt _ (by decide)⟩) ≠ 0

open Classical in
/-- The bit of word `w` that says so: bit `2 a + g`. -/
def mark (q : Queries) (codes : Codes) (scale : Scales) (w : Fin 8192) (a g : Nat) : BitVec 32 :=
  if Hit q codes scale w a g then 1#32 <<< (2 * a + g) else 0#32

/-- The words: word `w` has the marks of the sixteen centroids `8192 a + w`, two for each. -/
def bits (q : Queries) (codes : Codes) (scale : Scales) : (⟨2, ![1, 8192]⟩ : Shape).Idx → BitVec 32 :=
  fun i => (∑ a : Fin 16, mark q codes scale (i 1) a.val 0) + ∑ a : Fin 16, mark q codes scale (i 1) a.val 1

/-- The marks of the two centroids `8192 k + w` and `8192 (8 + k) + w`. -/
def pairMarks (q : Queries) (codes : Codes) (scale : Scales) (w : Fin 8192) (k : Nat) : BitVec 32 :=
  (mark q codes scale w k 0 + mark q codes scale w k 1) + (mark q codes scale w (8 + k) 0 + mark q codes scale w (8 + k) 1)

/-- The marks of the first `n` such pairs. -/
def marksUpTo (q : Queries) (codes : Codes) (scale : Scales) (w : Fin 8192) (n : Nat) : BitVec 32 :=
  ∑ k ∈ Finset.range n, pairMarks q codes scale w k

theorem marksUpTo_succ (q : Queries) (codes : Codes) (scale : Scales) (w : Fin 8192) (n : Nat) :
    marksUpTo q codes scale w (n + 1) = marksUpTo q codes scale w n + pairMarks q codes scale w n := Finset.sum_range_succ _ n

theorem marksUpTo_one (q : Queries) (codes : Codes) (scale : Scales) (w : Fin 8192) :
    marksUpTo q codes scale w 1 = pairMarks q codes scale w 0 := Finset.sum_range_one _

theorem marksUpTo_eight (q : Queries) (codes : Codes) (scale : Scales) (w : Fin 8192) :
    marksUpTo q codes scale w 8 = bits q codes scale (ix2 0 w) := by
  have e : ∀ g, (∑ a : Fin 16, mark q codes scale w a.val g)
      = (∑ k ∈ Finset.range 8, mark q codes scale w k g) + ∑ k ∈ Finset.range 8, mark q codes scale w (8 + k) g := fun g => by
    rw [Fin.sum_univ_eq_sum_range (fun a => mark q codes scale w a g) 16]
    exact Finset.sum_range_add _ 8 8
  show _ = (∑ a : Fin 16, mark q codes scale w a.val 0) + ∑ a : Fin 16, mark q codes scale w a.val 1
  rw [e, e]
  unfold marksUpTo pairMarks
  rw [Finset.sum_add_distrib, Finset.sum_add_distrib, Finset.sum_add_distrib]
  exact add_add_add_comm _ _ _ _

/-- The bits the first `k` pairs use. -/
def below (k : Nat) : BitVec 32 := BitVec.ofNat 32 (0x00010001 * (4 ^ k - 1))

/-- The four marks of pair `k` as a word of four conditions. -/
def four (k : Nat) (b0 b1 b2 b3 : Bool) : BitVec 32 :=
  ((if b0 then 1#32 <<< (2 * k) else 0#32) + (if b1 then 1#32 <<< (2 * k + 1) else 0#32))
    + ((if b2 then 1#32 <<< (2 * (8 + k)) else 0#32) + (if b3 then 1#32 <<< (2 * (8 + k) + 1) else 0#32))

theorem four_apart : ∀ (k : Fin 8) (b0 b1 b2 b3 : Bool), below k.val &&& four k.val b0 b1 b2 b3 = 0#32 := by decide +kernel

theorem four_within : ∀ (k : Fin 8) (b0 b1 b2 b3 : Bool), four k.val b0 b1 b2 b3 &&& below (k.val + 1) = four k.val b0 b1 b2 b3 := by
  decide +kernel

theorem below_mono : ∀ k : Fin 8, below k.val &&& below (k.val + 1) = below k.val := by decide +kernel

theorem pairMarks_eq_four (q : Queries) (codes : Codes) (scale : Scales) (w : Fin 8192) (k : Nat) :
    ∃ b0 b1 b2 b3, pairMarks q codes scale w k = four k b0 b1 b2 b3 := by
  classical
  refine ⟨decide (Hit q codes scale w k 0), decide (Hit q codes scale w k 1), decide (Hit q codes scale w (8 + k) 0),
    decide (Hit q codes scale w (8 + k) 1), ?_⟩
  unfold pairMarks four mark
  simp only [decide_eq_true_eq, Nat.add_zero]

theorem or_of_apart (x y : BitVec 32) (h : x &&& y = 0#32) : x ||| y = x + y := (BitVec.add_eq_or_of_and_eq_zero x y h).symm

/-- The marks of the pairs use bits of their own, so that setting them one pair after the other adds them up. -/
theorem marks_step (q : Queries) (codes : Codes) (scale : Scales) (w : Fin 8192) :
    ∀ n : Nat, n ≤ 8 → marksUpTo q codes scale w n &&& below n = marksUpTo q codes scale w n
      ∧ ∀ k, n = k + 1 → marksUpTo q codes scale w k ||| pairMarks q codes scale w k = marksUpTo q codes scale w n := by
  intro n
  induction n with
  | zero =>
    intro _
    refine ⟨?_, fun k h => absurd h (Nat.succ_ne_zero k).symm⟩
    unfold marksUpTo
    rw [Finset.sum_range_zero]
    exact BitVec.zero_and
  | succ n ih =>
    intro h
    obtain ⟨b0, b1, b2, b3, e⟩ := pairMarks_eq_four q codes scale w n
    have h1 := (ih (by omega)).1
    have ha : marksUpTo q codes scale w n &&& pairMarks q codes scale w n = 0#32 := by
      rw [← h1, e, BitVec.and_assoc, four_apart ⟨n, by omega⟩, BitVec.and_zero]
    have ho := or_of_apart _ _ ha
    rw [← marksUpTo_succ] at ho
    refine ⟨?_, fun k hk => ?_⟩
    · rw [← ho, BitVec.and_or_distrib_right, e, four_within ⟨n, by omega⟩]
      refine congrArg (· ||| _) ?_
      rw [← h1, BitVec.and_assoc, below_mono ⟨n, by omega⟩]
    · obtain rfl : n = k := by omega
      exact ho

theorem marks_or (q : Queries) (codes : Codes) (scale : Scales) (w : Fin 8192) (k : Nat) (h : k < 8) :
    marksUpTo q codes scale w k ||| pairMarks q codes scale w k = marksUpTo q codes scale w (k + 1) :=
  (marks_step q codes scale w (k + 1) h).2 k rfl

/-! ## The cuts -/

abbrev Offsets := (⟨1, ![45001]⟩ : Shape).Idx → BitVec 32

/-- How many offsets lie below `b`. -/
def offsetsBelow (off : Offsets) (b : BitVec 32) : BitVec 32 := ∑ d : Fin 45001, if (off (ix1 d)).slt b then 1#32 else 0#32

/-- The first document of part `n` of 32: as many documents as begin below `93750 n`, rounded down to a multiple of
    eight, and no more than there are. -/
def cut (off : Offsets) (n : Nat) : BitVec 32 :=
  IntOp.minsi ((offsetsBelow off (BitVec.ofNat 32 (93750 * n))).sdiv 8#32 * 8#32) 45000#32

/-- The cuts, in the lanes from 0 to 32. -/
def cuts (off : Offsets) (n : Nat) : BitVec 32 := if 0 < n ∧ n < 32 then cut off n else if n = 32 then 45000#32 else 0#32

/-- The table of cuts: its first row the cuts, every other row the queries in the order of their places. -/
def cutTable (q : Queries) (off : Offsets) : (⟨2, ![8, 128]⟩ : Shape).Idx → BitVec 32 :=
  fun i => if (i 0).val = 0 then cuts off (i 1).val else if h : (i 1).val < 64 then BitVec.ofNat 32 (placed q ⟨(i 1).val, h⟩).val else 0#32

theorem offsetsBelow_le (off : Offsets) (b : BitVec 32) : (offsetsBelow off b).toNat ≤ 45001 := by
  have h : ∀ d : Fin 45001, (if (off (ix1 d)).slt b then 1#32 else 0#32 : BitVec 32).toNat ≤ 1 := fun d => by split <;> decide
  have hs : ∑ d : Fin 45001, (if (off (ix1 d)).slt b then 1#32 else 0#32 : BitVec 32).toNat ≤ 45001 :=
    (Finset.sum_le_sum fun d _ => h d).trans (by simp)
  unfold offsetsBelow
  rw [WordSum.toNat_sum _ _ (lt_of_le_of_lt hs (by decide))]
  exact hs

end Cert.Table
end
-- ==== Proof.Table.Bits.lean ====
/-
  The word window: what a grid point stores in it is the marks of its block's two centroids per word, added to those
  already there.
-/
module

public import proofs.«01_k».proof.Proof.Table.Block
public import proofs.«01_k».proof.Proof.Table.Marks

@[expose] public section
noncomputable section
namespace Cert.Table
open Idealize.ShloMosaic Idealize.SL.Sem Cert.TablesIdeal Cert.TablesIdeal.Gen Cert.Table.Run

/-- The group of 32 lanes a lane belongs to, as the body computes it. -/
def groupOf (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 32#32 0#32)) (Scalar.extui (Scalar.cmpi .slt 32#32 0#32)))) (IntOp.cmpi .ne (IntOp.remsi .vector x 32#32) 0#32))
    (IntOp.subi (IntOp.divsi .vector x 32#32) 1#32) (IntOp.divsi .vector x 32#32)

theorem pay60_apply (s : Fin 16) (l : Fin 128) : k0_pay60 (ix2 s l) = groupOf (BitVec.ofNat 32 l.val) := by
  unfold k0_pay60
  pointwise
  rfl

theorem groupOf_eq : ∀ (s : Fin 16) (l : Fin 128), IntOp.cmpi .eq (groupOf (BitVec.ofNat 32 l.val)) (BitVec.ofNat 32 s.val) = if l.val / 32 = s.val then 1#1 else 0#1 := by
  decide +kernel

theorem pay61_apply (s : Fin 16) (l : Fin 128) :
    k0_pay61 (F := Ideal) (iota .tc S16x128 32 [0] iota_S16x128_d0_w32) k0_pay60 (ix2 s l) = if l.val / 32 = s.val then 1 else 0 := by
  unfold k0_pay61
  pointwise
  rw [pay60_apply, groupOf_eq]
  split <;> rfl

/-- Which lanes of a row count. -/
def member (p : FVec Ideal S128x128 .f32) : FVec Ideal S128x128 .bf16 :=
  truncf .bf16 (select (cmpf .one p (broadcast S128x128 (Scalar.ofBits (F := Ideal) .f32 0x00000000#32)))
    (broadcast S128x128 (Scalar.ofBits (F := Ideal) .f32 0x3F800000#32)) (broadcast S128x128 (Scalar.ofBits (F := Ideal) .f32 0x00000000#32))) bitsLt_bf16_f32

open Classical in
theorem member_apply (p : FVec Ideal S128x128 .f32) (r l : Fin 128) : member p (ix2 r l) = if p (ix2 r l) ≠ 0 then 1 else 0 := by
  unfold member
  pointwise
  exact one_word _

/-- How many lanes of a group count, per row. -/
def count (p : FVec Ideal S128x128 .f32) : FVec Ideal S16x128 .f32 :=
  matmul dot_S16x128_S128x128_S16x128_1_1_0_0_n_n none (k0_pay61 (F := Ideal) (iota .tc S16x128 32 [0] iota_S16x128_d0_w32) k0_pay60) (member p)
    (constant S16x128 .f32 0x00000000#32)

theorem count_apply (p : FVec Ideal S128x128 .f32) (s : Fin 16) (r : Fin 128) :
    count p (ix2 s r) = ∑ l : Fin 128, (if l.val / 32 = s.val then (1 : EReal) else 0) * member p (ix2 r l) := by
  have z : (constant S16x128 .f32 0x00000000#32 : FVec Ideal S16x128 .f32) = fun _ => 0 := funext fun _ => Ideal.ofBits_zero_f32
  unfold count
  rw [z]
  refine (Ideal.matmul_transposedRhs_apply (M := 16) (K := 128) (N := 128) (φ₁ := .bf16) (φ₂ := .bf16) none
    (k0_pay61 (F := Ideal) (iota .tc S16x128 32 [0] iota_S16x128_d0_w32) k0_pay60) (member p) (fun _ => (0 : EReal) : FVec Ideal S16x128 .f32) s r).trans ?_
  refine (zero_add _).trans ?_
  exact Finset.sum_congr rfl fun l _ => congrArg (· * member p (ix2 r l)) (pay61_apply s l)

theorem count_pos (p : FVec Ideal S128x128 .f32) (s : Fin 16) (r : Fin 128) :
    0 < count p (ix2 s r) ↔ ∃ l : Fin 128, l.val / 32 = s.val ∧ p (ix2 r l) ≠ 0 := by
  classical
  rw [count_apply, ← sum_pos_iff]
  refine iff_of_eq (congrArg (0 < ·) (Finset.sum_congr rfl fun l _ => ?_))
  rw [member_apply]
  by_cases h : l.val / 32 = s.val
  · rw [if_pos h, one_mul]
    simp only [h, true_and]
  · rw [if_neg h, zero_mul, if_neg fun hn => h hn.1]

/-- The bit group `s` sets at grid row `k`, as the body computes it. -/
def bitOf (k s : BitVec 32) : BitVec 32 :=
  IntOp.addi (Scalar.select (IntOp.cmpi .slt s 2#32) s (IntOp.addi (IntOp.subi s 2#32) 16#32)) (Scalar.muli k 2#32)

theorem sum_groups (src : IVec S16x128 32) (r : Fin 128) :
    multiReductionI .add [0] S128 src 0#32 reduces_S16x128_S128 rfl (ix1 r) = ∑ s : Fin 16, src (ix2 s r) := by
  refine (multiReductionI_eq_fold .add src 0#32 reduces_S16x128_S128 rfl (ix1 r)).trans ?_
  rw [reduces_S16x128_S128.fold_fiber_r2_a0]
  exact (fold_addi _ _ _).trans (zero_add _)

theorem maskRow_eq (k : BitVec 32) (p : FVec Ideal S128x128 .f32) (r : Fin 128) : maskRow k p (ix2 0 r)
    = ∑ s : Fin 16, Scalar.select (Ideal.cmp .ogt (count p (ix2 s r)) 0) (IntOp.shli .vector 1#32 (bitOf k (BitVec.ofNat 32 s.val))) 0#32 := by
  unfold maskRow
  dsimp only
  refine (shapeCast_apply (s := S128) (t := S1x128) _ _ (ix2 0 r) (ix1 r) (by
    rw [Shape.rowMajor_val_one, Shape.rowMajor_val_two]
    show r.val = 0 * 128 + r.val
    omega)).trans ?_
  refine (sum_groups _ r).trans (Finset.sum_congr rfl fun s _ => ?_)
  have z : (FloatOps.ofBits .f32 0x00000000#32 : Ideal .f32) = 0 := Ideal.ofBits_zero_f32
  show Scalar.select (Ideal.cmp .ogt (count p (ix2 s r)) (FloatOps.ofBits .f32 0x00000000#32 : Ideal .f32)) _ _ = _
  have i0 : iota .tc S16x128 32 [0] iota_S16x128_d0_w32 (ix2 s r) = BitVec.ofNat 32 s.val := by pointwise
  rw [z, ← i0]
  rfl

/-- Group `s` marks its bit where one of its lanes counts. -/
def Marks (p : FVec Ideal S128x128 .f32) (r : Fin 128) (s : Nat) : Prop := ∃ l : Fin 128, l.val / 32 = s ∧ p (ix2 r l) ≠ 0

theorem bit_words : ∀ (k : Fin 8),
    IntOp.shli .vector 1#32 (bitOf (BitVec.ofNat 32 k.val) 0#32) = 1#32 <<< (2 * k.val + 0)
    ∧ IntOp.shli .vector 1#32 (bitOf (BitVec.ofNat 32 k.val) 1#32) = 1#32 <<< (2 * k.val + 1)
    ∧ IntOp.shli .vector 1#32 (bitOf (BitVec.ofNat 32 k.val) 2#32) = 1#32 <<< (2 * (8 + k.val) + 0)
    ∧ IntOp.shli .vector 1#32 (bitOf (BitVec.ofNat 32 k.val) 3#32) = 1#32 <<< (2 * (8 + k.val) + 1) := by decide +kernel

open Classical in
theorem maskRow_apply (k : Fin 8) (p : FVec Ideal S128x128 .f32) (r : Fin 128) : maskRow (BitVec.ofNat 32 k.val) p (ix2 0 r)
    = ((if Marks p r 0 then 1#32 <<< (2 * k.val + 0) else 0#32) + (if Marks p r 1 then 1#32 <<< (2 * k.val + 1) else 0#32))
      + ((if Marks p r 2 then 1#32 <<< (2 * (8 + k.val) + 0) else 0#32) + (if Marks p r 3 then 1#32 <<< (2 * (8 + k.val) + 1) else 0#32)) := by
  have e : ∀ s : Fin 16, Scalar.select (Ideal.cmp .ogt (count p (ix2 s r)) 0) (IntOp.shli .vector 1#32 (bitOf (BitVec.ofNat 32 k.val) (BitVec.ofNat 32 s.val))) 0#32
      = if Marks p r s.val then IntOp.shli .vector 1#32 (bitOf (BitVec.ofNat 32 k.val) (BitVec.ofNat 32 s.val)) else 0#32 := fun s => by
    show Scalar.select (BitVec.ofBool (decide (0 < count p (ix2 s r)))) _ _ = _
    by_cases h : Marks p r s.val
    · rw [if_pos h, decide_eq_true ((count_pos p s r).mpr h)]; rfl
    · rw [if_neg h, decide_eq_false (mt (count_pos p s r).mp h)]; rfl
  have far : ∀ s : Fin 12, ¬ Marks p r (Fin.natAdd 4 s).val := fun s h => by
    obtain ⟨l, hl, -⟩ := h
    have := l.isLt
    rw [Fin.val_natAdd] at hl
    omega
  obtain ⟨h0, h1, h2, h3⟩ := bit_words k
  have none : (∑ s : Fin 12, if Marks p r (Fin.natAdd 4 s).val then IntOp.shli .vector 1#32 (bitOf (BitVec.ofNat 32 k.val) (BitVec.ofNat 32 (Fin.natAdd 4 s).val)) else 0#32) = 0 :=
    Finset.sum_eq_zero fun s _ => if_neg (far s)
  rw [maskRow_eq, Finset.sum_congr rfl fun s _ => e s, Fin.sum_univ_add (a := 4) (b := 12), none, add_zero, Fin.sum_univ_four, ← h0, ← h1, ← h2, ← h3]
  exact add_assoc (G := BitVec 32) _ _ _

/-- One store: the marks of a tile, added to the old words except at the first grid row. -/
theorem merged_apply (k : Fin 8) (p : FVec Ideal S128x128 .f32) (old : Vec Ideal S1x128 .i32) (r : Fin 128) :
    merged (BitVec.ofNat 32 k.val) p old (ix2 0 r)
      = if k.val = 0 then maskRow (BitVec.ofNat 32 k.val) p (ix2 0 r) else old (ix2 0 r) ||| maskRow (BitVec.ofNat 32 k.val) p (ix2 0 r) := by
  unfold merged k0_pay70
  rw [shapeCast_self]
  by_cases h : k.val = 0
  · rw [if_pos h, h]; rfl
  · rw [if_neg h, show Scalar.cmpi .eq (BitVec.ofNat 32 k.val) 0#32 = 0#1 from by revert h; revert k; decide]
    rfl

open Classical in
/-- The marks of row `R` of a block. -/
def blockMarks (k : Nat) (B : Vec Ideal S2048x128 .f32) (R : Fin 2048) : BitVec 32 :=
  ((if ∃ l : Fin 128, l.val / 32 = 0 ∧ B (ix2 R l) ≠ 0 then 1#32 <<< (2 * k + 0) else 0#32) + (if ∃ l : Fin 128, l.val / 32 = 1 ∧ B (ix2 R l) ≠ 0 then 1#32 <<< (2 * k + 1) else 0#32))
    + ((if ∃ l : Fin 128, l.val / 32 = 2 ∧ B (ix2 R l) ≠ 0 then 1#32 <<< (2 * (8 + k) + 0) else 0#32) + (if ∃ l : Fin 128, l.val / 32 = 3 ∧ B (ix2 R l) ≠ 0 then 1#32 <<< (2 * (8 + k) + 1) else 0#32))

/-- The word window after the body, from the block of the table and the old words. -/
def merge (k : Nat) (B : Vec Ideal S2048x128 .f32) (d : Vec Ideal S1x2048 .i32) : Vec Ideal S1x2048 .i32 :=
  fun y => if k = 0 then blockMarks k B (y 1) else d y ||| blockMarks k B (y 1)

theorem merged_eq (k : Fin 8) (x0 x1 : Vec Ideal S2048x128 .fp8e4m3) (x2 x3 : Vec Ideal S16x128 .f32) (q : Vec Ideal S64x128 .bf16) (d : Vec Ideal S1x2048 .i32)
    (j : Fin 16) (o : Nat) (ho : o = 128 * j.val) (h : ∀ a, (![o, 0] : Fin 2 → Nat) a + S128x128.size a ≤ S2048x128.size a)
    (h' : ∀ a, (![0, o] : Fin 2 → Nat) a + S1x128.size a ≤ S1x2048.size a) (p : FVec Ideal S128x128 .f32)
    (hp : p = tile (BitVec.ofNat 32 j.val) (BitVec.ofNat 32 (16 + j.val)) (k0_pay4 q) (k0_pay59 x2 x3)
        (View.ld x0 (Rect.unit (s := S2048x128) ![o, 0] S128x128.size h)) (View.ld x1 (Rect.unit (s := S2048x128) ![o, 0] S128x128.size h))) (x : S1x128.Idx) :
    merged (BitVec.ofNat 32 k.val) p (View.ld d (Rect.unit (s := S1x2048) ![0, o] S1x128.size h')) x
      = merge k.val (block x0 x1 x2 x3 q) d ((Rect.unit (s := S1x2048) ![0, o] S1x128.size h').emb x) := by
  obtain ⟨z, r, rfl⟩ : ∃ (z : Fin 1) (r : Fin 128), x = ix2 z r := ⟨x 0, x 1, eq_ix2 x⟩
  obtain rfl : z = 0 := Subsingleton.elim _ _
  obtain ⟨R, hR⟩ : ∃ R : Fin 2048, R.val = o + r.val := ⟨⟨o + r.val, by omega⟩, rfl⟩
  have e : (Rect.unit (s := S1x2048) ![0, o] S1x128.size h').emb (ix2 0 r) = ix2 0 R := by
    funext a
    fin_cases a
    · rfl
    · exact Fin.ext (by show o + 1 * r.val = R.val; omega)
  have hb : ∀ l, p (ix2 r l) = block x0 x1 x2 x3 q (ix2 R l) := fun l => by
    rw [hp, tile_eq x0 x1 x2 x3 q j o ho h r l, emb_tile o h r l R hR]
  have hm : maskRow (BitVec.ofNat 32 k.val) p (ix2 0 r) = blockMarks k.val (block x0 x1 x2 x3 q) R := by
    rw [maskRow_apply]
    unfold Marks blockMarks
    simp only [hb]
  rw [merged_apply, hm, e]
  show _ = if k.val = 0 then _ else _
  refine if_congr Iff.rfl rfl ?_
  refine congrArg (· ||| _) ?_
  exact congrArg d e

/-- The word window's buffer after the body. -/
theorem words_eq (k : Fin 8) (x0 x1 : Vec Ideal S2048x128 .fp8e4m3) (x2 x3 : Vec Ideal S16x128 .f32) (q : Vec Ideal S64x128 .bf16) (d : Vec Ideal S1x2048 .i32) :
    words (BitVec.ofNat 32 k.val) x0 x1 x2 x3 (kept q) d = merge k.val (block x0 x1 x2 x3 q) d := by
  have e0 : ∀ w : Vec Ideal S128x256 .bf16, View.ld w wholeQ = w := fun w => View.ld_unit_zero (funext fun a => by fin_cases a <;> rfl) _ _
  have e1 : ∀ w : Vec Ideal S16x128 .f32, View.ld w whole16 = w := fun w => View.ld_unit_zero (funext fun a => by fin_cases a <;> rfl) _ _
  have e2 : View.ld q wholeq = q := View.ld_unit_zero (funext fun a => by fin_cases a <;> rfl) _ _
  funext y
  unfold words kept
  rw [e0, e1, e1, e2]
  refine View.canon_apply_of_pieces (merge k.val (block x0 x1 x2 x3 q) d) _ ?_ y (cover_words _ _ _ _ _ _ _ _ _ _ _ _ _ _ _ _ y)
  simp only [List.forall_mem_cons, List.forall_mem_nil]
  refine ⟨fun x => ?_, fun x => ?_, fun x => ?_, fun x => ?_, fun x => ?_, fun x => ?_, fun x => ?_, fun x => ?_,
    fun x => ?_, fun x => ?_, fun x => ?_, fun x => ?_, fun x => ?_, fun x => ?_, fun x => ?_, fun x => ?_, fun _ h => absurd h List.not_mem_nil⟩
  · exact merged_eq k x0 x1 x2 x3 q d 15 1920 rfl (by decide) _ _ rfl x
  · exact merged_eq k x0 x1 x2 x3 q d 14 1792 rfl (by decide) _ _ rfl x
  · exact merged_eq k x0 x1 x2 x3 q d 13 1664 rfl (by decide) _ _ rfl x
  · exact merged_eq k x0 x1 x2 x3 q d 12 1536 rfl (by decide) _ _ rfl x
  · exact merged_eq k x0 x1 x2 x3 q d 11 1408 rfl (by decide) _ _ rfl x
  · exact merged_eq k x0 x1 x2 x3 q d 10 1280 rfl (by decide) _ _ rfl x
  · exact merged_eq k x0 x1 x2 x3 q d 9 1152 rfl (by decide) _ _ rfl x
  · exact merged_eq k x0 x1 x2 x3 q d 8 1024 rfl (by decide) _ _ rfl x
  · exact merged_eq k x0 x1 x2 x3 q d 7 896 rfl (by decide) _ _ rfl x
  · exact merged_eq k x0 x1 x2 x3 q d 6 768 rfl (by decide) _ _ rfl x
  · exact merged_eq k x0 x1 x2 x3 q d 5 640 rfl (by decide) _ _ rfl x
  · exact merged_eq k x0 x1 x2 x3 q d 4 512 rfl (by decide) _ _ rfl x
  · exact merged_eq k x0 x1 x2 x3 q d 3 384 rfl (by decide) _ _ rfl x
  · exact merged_eq k x0 x1 x2 x3 q d 2 256 rfl (by decide) _ _ rfl x
  · exact merged_eq k x0 x1 x2 x3 q d 1 128 rfl (by decide) _ _ rfl x
  · exact merged_eq k x0 x1 x2 x3 q d 0 0 rfl (by decide) _ _ rfl x

end Cert.Table
end
-- ==== Proof.Table.Cuts.lean ====
/-
  The table of cuts, as the body computes it from the queries and the offsets padded to whole rows.
-/
module

public import proofs.«01_k».proof.Proof.Table.Select
public import proofs.«01_k».proof.Proof.Table.Runs
public import proofs.«01_k».proof.Proof.Table.Marks

@[expose] public section
noncomputable section
namespace Cert.Table
open Idealize.ShloMosaic Idealize.SL.Sem Cert.TablesIdeal Cert.TablesIdeal.Gen Cert.Table.Run

/-! ## The placed queries -/

theorem fptosi_natCast (n : Nat) (h : n < 64) : Ideal.fptosi 32 ((n : ℝ) : EReal) = BitVec.ofNat 32 n := by
  unfold Ideal.fptosi
  rw [Ideal.toIntClamped_coe, if_pos (Nat.cast_nonneg n), Int.floor_natCast]
  have e : max (-((2 ^ (32 - 1) : Nat) : Int)) (min (((2 ^ (32 - 1) : Nat) : Int) - 1) (n : Int)) = (n : Int) := by
    norm_num
    omega
  rw [e]
  exact BitVec.ofInt_natCast 32 n

theorem number_apply (s : Fin 8) (n : Fin 64) :
    (sitofp .bf16 (iota .tc S8x64 32 [1] iota_S8x64_d1_w32) : FVec Ideal S8x64 .bf16) (ix2 s n) = ((n.val : ℝ) : EReal) := by
  have i0 : iota .tc S8x64 32 [1] iota_S8x64_d1_w32 (ix2 s n) = BitVec.ofNat 32 n.val := by pointwise
  show (((iota .tc S8x64 32 [1] iota_S8x64_d1_w32 (ix2 s n)).toInt : ℝ) : EReal) = _
  have t : ∀ n : Fin 64, (BitVec.ofNat 32 n.val).toInt = (n.val : Int) := by decide +kernel
  rw [i0, t, Int.cast_natCast]

theorem pay5_apply (q : Vec Ideal S64x128 .bf16) (s : Fin 8) (p : Fin 64) : k0_pay5 (F := Ideal) q (ix2 s p) = BitVec.ofNat 32 (placed q p).val := by
  have z : (constant S8x64 .f32 0x00000000#32 : FVec Ideal S8x64 .f32) = fun _ => 0 := funext fun _ => Ideal.ofBits_zero_f32
  have e : (matmul dot_S8x64_S64x64_S8x64_1_1_0_0_n_n none (φ₁ := .bf16) (φ₂ := .bf16) (sitofp .bf16 (iota .tc S8x64 32 [1] iota_S8x64_d1_w32)) (k0_pay3 q)
      (constant S8x64 .f32 0x00000000#32) : FVec Ideal S8x64 .f32) (ix2 s p) = (((placed q p).val : ℝ) : EReal) := by
    rw [z]
    refine (Ideal.matmul_transposedRhs_apply (M := 8) (K := 64) (N := 64) (φ₁ := .bf16) (φ₂ := .bf16) none
      (sitofp .bf16 (iota .tc S8x64 32 [1] iota_S8x64_d1_w32)) (k0_pay3 q) (fun _ => (0 : EReal) : FVec Ideal S8x64 .f32) s p).trans ?_
    refine (zero_add _).trans ?_
    rw [← sum_place q p fun n => ((n.val : ℝ) : EReal)]
    refine Finset.sum_congr rfl fun n _ => ?_
    show (sitofp .bf16 (iota .tc S8x64 32 [1] iota_S8x64_d1_w32) : FVec Ideal S8x64 .bf16) (ix2 s n) * k0_pay3 q (ix2 p n) = _
    rw [number_apply, pay3_apply]
    by_cases h : place q n = p.val
    · rw [if_pos h, if_pos h, mul_one]
    · rw [if_neg h, if_neg h, mul_zero]
  unfold k0_pay5
  show Ideal.fptosi 32 ((matmul dot_S8x64_S64x64_S8x64_1_1_0_0_n_n none (φ₁ := .bf16) (φ₂ := .bf16) (sitofp .bf16 (iota .tc S8x64 32 [1] iota_S8x64_d1_w32)) (k0_pay3 q)
      (constant S8x64 .f32 0x00000000#32) : FVec Ideal S8x64 .f32) (ix2 s p)) = _
  rw [e]
  exact fptosi_natCast _ (placed q p).isLt

theorem pay7_apply (q : Vec Ideal S64x128 .bf16) (s : Fin 8) (l : Fin 128) :
    k0_pay7 (k0_pay5 (F := Ideal) q) k0_pay6 (ix2 s l) = if h : l.val < 64 then BitVec.ofNat 32 (placed q ⟨l.val, h⟩).val else 0#32 := by
  unfold k0_pay7
  by_cases h : l.val < 64
  · rw [dif_pos h]
    refine (concatenate_pair_apply_left (t := S8x128) (s₁ := S8x64) (s₂ := S8x64) (1 : Fin 2) _ _ _ (ix2 s l) rfl (ix2 s ⟨l.val, h⟩) (by
      intro a
      fin_cases a <;> rfl)).trans ?_
    exact pay5_apply q s ⟨l.val, h⟩
  · rw [dif_neg h]
    refine (concatenate_pair_apply_right (t := S8x128) (s₁ := S8x64) (s₂ := S8x64) (1 : Fin 2) _ _ _ (ix2 s l) rfl rfl (ix2 s ⟨l.val - 64, by omega⟩) (by
      intro a ha
      fin_cases a
      · rfl
      · exact absurd rfl ha) (by
      show (l.val - 64) + 64 = l.val
      omega)).trans ?_
    rfl

/-! ## The number of offsets below a bound -/

/-- The offsets in rows of 128, padded by a number above every bound. -/
def Padded (x5 : Vec Ideal S354x128 .i32) (off : Offsets) : Prop :=
  ∀ (a : Fin 354) (b : Fin 128), x5 (ix2 a b) = if h : a.val * 128 + b.val < 45001 then off (ix1 ⟨a.val * 128 + b.val, h⟩) else 3000000#32

theorem sum_all (src : IVec S1x354x128 32) :
    multiReductionI .add [1, 2] S1 src 0#32 reduces_S1x354x128_S1 rfl (ix1 0) = ∑ k : Fin 354 × Fin 128, src (ix3 0 k.1 k.2) := by
  refine (multiReductionI_eq_fold .add src 0#32 reduces_S1x354x128_S1 rfl (ix1 0)).trans ?_
  rw [reduces_S1x354x128_S1.fold_fiber_r3_a12]
  exact (fold_addi _ _ _).trans (zero_add _)

theorem countBelow_eq (off : IVec S354x128 32) (b : BitVec 32) :
    countBelow off b = ∑ k : Fin 354 × Fin 128, if (off (ix2 k.1 k.2)).slt b then 1#32 else 0#32 := by
  unfold countBelow extractAt
  refine (shapeCast_apply (s := S1) (t := S1x1x1) _ _ _ (ix1 0) (by
    rw [Shape.rowMajor_val_one, Shape.rowMajor_val_three]
    rfl)).trans ?_
  refine (sum_all _).trans ?_
  refine Finset.sum_congr rfl fun k _ => ?_
  refine (shapeCast_apply (s := S354x128) (t := S1x354x128) _ _ (ix3 0 k.1 k.2) (ix2 k.1 k.2) (by
    rw [Shape.rowMajor_val_two, Shape.rowMajor_val_three]
    show k.1.val * 128 + k.2.val = (0 * 354 + k.1.val) * 128 + k.2.val
    omega)).trans ?_
  show Scalar.select (BitVec.ofBool ((off (ix2 k.1 k.2)).slt b)) 1#32 0#32 = _
  cases (off (ix2 k.1 k.2)).slt b <;> rfl

theorem countBelow_padded (x5 : Vec Ideal S354x128 .i32) (off : Offsets) (hoff : Padded x5 off) (b : BitVec 32)
    (hb : (3000000#32).slt b = false) : countBelow x5 b = offsetsBelow off b := by
  have g : ∀ n : Nat, ∃ v : BitVec 32, v = if h : n < 45001 then (if (off (ix1 ⟨n, h⟩)).slt b then 1#32 else 0#32) else 0#32 := fun n => ⟨_, rfl⟩
  choose f hf using g
  have e1 : countBelow x5 b = ∑ k : Fin 354 × Fin 128, f (k.1.val * 128 + k.2.val) := by
    rw [countBelow_eq]
    refine Finset.sum_congr rfl fun k _ => ?_
    rw [hf, hoff]
    by_cases h : k.1.val * 128 + k.2.val < 45001
    · rw [dif_pos h, dif_pos h]
    · rw [dif_neg h, dif_neg h, hb]
      rfl
  have e2 : ∑ k : Fin 354 × Fin 128, f (k.1.val * 128 + k.2.val) = ∑ n ∈ Finset.range 45312, f n := by
    have e := Fin.sum_univ_eq_sum_range f (354 * 128)
    rw [show (45312 : Nat) = 354 * 128 from rfl, ← e, ← Equiv.sum_comp (finProdFinEquiv (m := 354) (n := 128))]
    refine Finset.sum_congr rfl fun k _ => congrArg f ?_
    show k.1.val * 128 + k.2.val = k.2.val + 128 * k.1.val
    omega
  have e3 : ∑ n ∈ Finset.range 45312, f n = ∑ n ∈ Finset.range 45001, f n := by
    rw [show (45312 : Nat) = 45001 + 311 from rfl, Finset.sum_range_add]
    have z : ∑ x ∈ Finset.range 311, f (45001 + x) = 0 := Finset.sum_eq_zero fun x _ => by rw [hf, dif_neg (by omega)]; rfl
    rw [z, add_zero]
  rw [e1, e2, e3, ← Fin.sum_univ_eq_sum_range]
  unfold offsetsBelow
  refine Finset.sum_congr rfl fun d _ => ?_
  rw [hf, dif_pos d.isLt]

/-! ## The quotient -/

theorem floorDiv_eight (n : BitVec 32) (h : n.toNat ≤ 45001) : floorDiv n 8#32 = n.sdiv 8#32 := by
  have e : Scalar.divsi n 8#32 = n.sdiv 8#32 := by
    show IntOp.divsi .scalar n 8#32 = _
    unfold IntOp.divsi
    refine if_neg ?_
    rintro (h | ⟨-, h⟩) <;> exact absurd h (by decide)
  by_cases hz : n = 0#32
  · subst hz
    decide +kernel
  · have t : n.toInt = (n.toNat : Int) := BitVec.toInt_eq_toNat_of_lt (by omega)
    have t0 : (0#32).toInt = 0 := rfl
    have hp : (0#32).slt n = true := by
      rw [BitVec.slt_iff_toInt_lt, t, t0]
      have : n.toNat ≠ 0 := fun h0 => hz (BitVec.eq_of_toNat_eq h0)
      omega
    have hn : n.slt 0#32 = false := by
      rw [Bool.eq_false_iff, Ne, BitVec.slt_iff_toInt_lt, t, t0]
      omega
    have e1 : Scalar.cmpi .sgt n 0#32 = 1#1 := by
      show BitVec.ofBool ((0#32).slt n) = _
      rw [hp]; rfl
    have e2 : Scalar.cmpi .slt n 0#32 = 0#1 := by
      show BitVec.ofBool (n.slt 0#32) = _
      rw [hn]; rfl
    unfold floorDiv
    rw [e1, e2, ← e]
    have e3 : ∀ x : BitVec 1, Scalar.andi (Scalar.cmpi .ne (Scalar.subi (Scalar.extui 1#1) (Scalar.extui 0#1) : BitVec 32)
      (Scalar.subi (Scalar.extui (Scalar.cmpi .sgt 8#32 0#32)) (Scalar.extui (Scalar.cmpi .slt 8#32 0#32)))) x = 0#1 := by decide +kernel
    rw [e3]
    rfl

/-! ## The row of cuts -/

/-- Whether a lane of the row is the lane `b`. -/
def laneIs (b : BitVec 32) (l : Fin 128) : BitVec 1 := IntOp.cmpi .eq (iota .tc S1x128 32 [1] iota_S1x128_d1_w32 (ix2 0 l)) b

theorem laneIs_eq (k : Nat) (hk : k < 128) (l : Fin 128) : laneIs (BitVec.ofNat 32 k) l = if l.val = k then 1#1 else 0#1 := by
  have i0 : iota .tc S1x128 32 [1] iota_S1x128_d1_w32 (ix2 0 l) = BitVec.ofNat 32 l.val := by pointwise
  have hl := l.isLt
  unfold laneIs
  rw [i0]
  show BitVec.ofBool (BitVec.ofNat 32 l.val == BitVec.ofNat 32 k) = _
  by_cases h : l.val = k
  · rw [if_pos h, h, beq_self_eq_true]; rfl
  · rw [if_neg h, beq_eq_false_iff_ne.mpr fun h' => h (by
      have := congrArg BitVec.toNat h'
      simp only [BitVec.toNat_ofNat] at this
      omega)]; rfl

/-- A count as a cut: rounded down to a multiple of eight, and no more than the number of documents. -/
def roundCut (n : BitVec 32) : BitVec 32 := Scalar.minsi (Scalar.muli (floorDiv n 8#32) 8#32) 45000#32

theorem roundCut_eq (n : BitVec 32) (h : n.toNat ≤ 45001) : roundCut n = IntOp.minsi (n.sdiv 8#32 * 8#32) 45000#32 := by
  unfold roundCut
  rw [floorDiv_eight n h]
  generalize n.sdiv 8#32 = x
  rfl

theorem cutRow_zero (x5 : IVec S354x128 32) (l : Fin 128) :
    cutRow x5 0 (ix2 0 l) = Scalar.select (laneIs (BitVec.ofNat 32 32) l) 45000#32 0#32 := rfl

theorem row_at (a y : BitVec 32) (z : IVec S1x128 32) (l : Fin 128) :
    select (cmpi .eq (iota .tc S1x128 32 [1] iota_S1x128_d1_w32) (broadcast S1x128 a)) (broadcast S1x128 y) z (ix2 0 l)
      = Scalar.select (laneIs a l) y (z (ix2 0 l)) := rfl

theorem cutRow_succ (x5 : IVec S354x128 32) (n : Nat) (l : Fin 128) : cutRow x5 (n + 1) (ix2 0 l)
    = Scalar.select (laneIs (BitVec.ofNat 32 (n + 1)) l) (roundCut (countBelow x5 (BitVec.ofNat 32 (93750 * (n + 1))))) (cutRow x5 n (ix2 0 l)) :=
  (congrFun (cutRow.eq_2 x5 n) (ix2 0 l)).trans (row_at _ _ _ l)

theorem cutRow_apply (x5 : Vec Ideal S354x128 .i32) (off : Offsets) (hoff : Padded x5 off) (l : Fin 128) : ∀ n : Nat, n ≤ 31 →
    cutRow x5 n (ix2 0 l) = if 0 < l.val ∧ l.val ≤ n then cut off l.val else if l.val = 32 then 45000#32 else 0#32 := by
  have hl := l.isLt
  intro n
  induction n with
  | zero =>
    intro _
    rw [if_neg (by omega), cutRow_zero, laneIs_eq 32 (by decide)]
    split <;> rfl
  | succ n ih =>
    intro h
    have hb : (3000000#32).slt (BitVec.ofNat 32 (93750 * (n + 1))) = false := by
      have : ∀ n : Fin 31, (3000000#32).slt (BitVec.ofNat 32 (93750 * (n.val + 1))) = false := by decide +kernel
      exact this ⟨n, by omega⟩
    rw [cutRow_succ, laneIs_eq (n + 1) (by omega), ih (by omega), countBelow_padded x5 off hoff _ hb, roundCut_eq _ (offsetsBelow_le _ _)]
    by_cases hl' : l.val = n + 1
    · rw [if_pos hl', if_pos (show 0 < l.val ∧ l.val ≤ n + 1 from ⟨by omega, by omega⟩), hl', cut]
      exact if_pos rfl
    · rw [if_neg hl']
      refine (if_neg (by decide)).trans ?_
      exact if_congr (by omega) rfl rfl

theorem metaOf_eq (q : Vec Ideal S64x128 .bf16) (x5 : Vec Ideal S354x128 .i32) (off : Offsets) (hoff : Padded x5 off) :
    metaOf q x5 = cutTable q off := by
  have e1 : View.ld q wholeq = q := View.ld_unit_zero (funext fun a => by fin_cases a <;> rfl) _ _
  have e2 : View.ld x5 wholeO = x5 := View.ld_unit_zero (funext fun a => by fin_cases a <;> rfl) _ _
  have e3 : k0_pay8 (F := Ideal) x5 = x5 := shapeCast_self _ _
  unfold metaOf
  rw [e1, e2, e3]
  funext j
  obtain ⟨s, l, rfl⟩ : ∃ (s : Fin 8) (l : Fin 128), j = ix2 s l := ⟨j 0, j 1, eq_ix2 j⟩
  have hl := l.isLt
  have e : k0_pay58 (k0_pay7 (k0_pay5 (F := Ideal) q) k0_pay6) (cutRow x5 31) (ix2 s l)
      = Scalar.select (IntOp.cmpi .eq (BitVec.ofNat 32 s.val) 0#32) (cutRow x5 31 (ix2 0 l)) (k0_pay7 (k0_pay5 (F := Ideal) q) k0_pay6 (ix2 s l)) := by
    unfold k0_pay58
    rw [shapeCast_self]
    generalize k0_pay7 (k0_pay5 (F := Ideal) q) k0_pay6 = y
    generalize cutRow x5 31 = z
    pointwise
  rw [e, cutRow_apply x5 off hoff l 31 le_rfl, pay7_apply]
  have c : IntOp.cmpi .eq (BitVec.ofNat 32 s.val) 0#32 = if s.val = 0 then 1#1 else 0#1 := by
    have : ∀ s : Fin 8, IntOp.cmpi .eq (BitVec.ofNat 32 s.val) 0#32 = if s.val = 0 then 1#1 else 0#1 := by decide +kernel
    exact this s
  show _ = if s.val = 0 then cuts off l.val else if h : l.val < 64 then BitVec.ofNat 32 (placed q ⟨l.val, h⟩).val else 0#32
  rw [c]
  by_cases hs : s.val = 0
  · rw [if_pos hs, if_pos hs]
    show (if 0 < l.val ∧ l.val ≤ 31 then cut off l.val else if l.val = 32 then 45000#32 else 0#32) = _
    exact if_congr (by omega) rfl rfl
  · rw [if_neg hs, if_neg hs]
    rfl

end Cert.Table
end
-- ==== Proof.Table.Kernel.lean ====
/-
  The table kernel returns the table, the words of marks and the table of cuts: what each grid point writes back is its
  block of them, and the blocks tile them.
-/
module

public import proofs.«01_k».proof.Proof.Table.Bits
public import proofs.«01_k».proof.Proof.Table.Cuts
public import proofs.«01_k».proof.Proof.Table.Frame
public import Idealize.ShloMosaic.Lib.KernelVsHost

@[expose] public section
noncomputable section
namespace Cert.Table.Kernel
open Idealize.ShloMosaic Idealize.ShloMosaic.TcCoe Idealize.SL.Sem Cert.TablesIdeal Cert.TablesIdeal.Gen Cert.Table.Run
open Idealize.ShloMosaic.Pipeline (Dat Window)

variable (m : (ℓ : Loc nD τ sig) → Buf (Elt Ideal) ℓ) (ρ : Dev nD → PrngReg)

/-- The queries as the region finds them: the first argument with its two leading axes as one. -/
def queries (c : Dev nD) : Vec Ideal S64x128 .bf16 :=
  shapeCast S64x128 (m ((c : Thread nD τ).loc main_arg0) : Vec Ideal S2x32x128 .bf16) shapeCasts_S2x32x128_S64x128

/-- The table of device `c`'s arguments. -/
def result (c : Dev nD) : Vec Ideal S65536x128 .f32 :=
  table (queries m c) (m ((c : Thread nD τ).loc main_arg1)) (m ((c : Thread nD τ).loc main_arg2))

theorem V_main_v1 (c : Dev nD) : V m c main_v1 = queries m c := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
  rfl

theorem V_main_v3 (c : Dev nD) : V m c main_v3
    = shapeCast S1024x128 (m ((c : Thread nD τ).loc main_arg2) : Vec Ideal S131072 .f32) shapeCasts_S131072_S1024x128 := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results
  rfl

/-- The table's block written at each grid point: the second coordinate counts rows of four blocks, the first the
    block in the row. -/
def at_ (t : Nat) : Nat := t % 8 * 4 + t / 8

/-- The block index of each window at each grid point (decided over the 32 points). -/
theorem idx_facts : ∀ t : Fin cfg0.N,
    (win0_0.index t 0 = at_ t.val ∧ win0_0.index t 1 = 0) ∧ (win0_1.index t 0 = at_ t.val + 32 ∧ win0_1.index t 1 = 0)
    ∧ (win0_2.index t 0 = at_ t.val ∧ win0_2.index t 1 = 0) ∧ (win0_3.index t 0 = at_ t.val + 32 ∧ win0_3.index t 1 = 0)
    ∧ (win0_6.index t 0 = at_ t.val ∧ win0_6.index t 1 = 0) :=
  (by decide +kernel : ∀ t : Fin grid0.N,
    (win0_0.index t 0 = at_ t.val ∧ win0_0.index t 1 = 0) ∧ (win0_1.index t 0 = at_ t.val + 32 ∧ win0_1.index t 1 = 0)
    ∧ (win0_2.index t 0 = at_ t.val ∧ win0_2.index t 1 = 0) ∧ (win0_3.index t 0 = at_ t.val + 32 ∧ win0_3.index t 1 = 0)
    ∧ (win0_6.index t 0 = at_ t.val ∧ win0_6.index t 1 = 0))

theorem at_lt (t : Fin cfg0.N) : at_ t.val < 32 := by
  have ht : t.val < 32 := Nat.lt_of_lt_of_eq t.isLt N_0
  unfold at_
  omega

theorem codes_lo (c : Dev nD) (t : Fin cfg0.N) (r : Fin 2048) (k : Fin 128) (i : Fin 131072) (hi : i.val = at_ t.val * 2048 + r.val) :
    (iblk m c 0 t : Vec Ideal S2048x128 .fp8e4m3) (ix2 r k) = (m ((c : Thread nD τ).loc main_arg1) : Vec Ideal S131072x128 .fp8e4m3) (ix2 i k) := by
  rw [← V_main_arg1 m c]
  refine congrArg (V m c main_arg1 : Vec Ideal S131072x128 .fp8e4m3) (funext fun a => Fin.ext ?_)
  obtain ⟨⟨h0, h1⟩, -⟩ := idx_facts t
  fin_cases a
  · exact (win0_0.rect_emb_val t (ix2 r k) 0).trans (by rw [h0]; exact hi.symm)
  · exact (win0_0.rect_emb_val t (ix2 r k) 1).trans (by rw [h1]; show 0 * 128 + k.val = k.val; omega)

theorem codes_hi (c : Dev nD) (t : Fin cfg0.N) (r : Fin 2048) (k : Fin 128) (i : Fin 131072) (hi : i.val = (at_ t.val + 32) * 2048 + r.val) :
    (iblk m c 1 t : Vec Ideal S2048x128 .fp8e4m3) (ix2 r k) = (m ((c : Thread nD τ).loc main_arg1) : Vec Ideal S131072x128 .fp8e4m3) (ix2 i k) := by
  rw [← V_main_arg1 m c]
  refine congrArg (V m c main_arg1 : Vec Ideal S131072x128 .fp8e4m3) (funext fun a => Fin.ext ?_)
  obtain ⟨-, ⟨h0, h1⟩, -⟩ := idx_facts t
  fin_cases a
  · exact (win0_1.rect_emb_val t (ix2 r k) 0).trans (by rw [h0]; exact hi.symm)
  · exact (win0_1.rect_emb_val t (ix2 r k) 1).trans (by rw [h1]; show 0 * 128 + k.val = k.val; omega)

/-- The scales in rows of 128, read at a row and a lane. -/
theorem scales_apply (c : Dev nD) (a : Fin 1024) (b : Fin 128) (i : Fin 131072) (hi : i.val = a.val * 128 + b.val) :
    (V m c main_v3 : Vec Ideal S1024x128 .f32) (ix2 a b) = (m ((c : Thread nD τ).loc main_arg2) : Vec Ideal S131072 .f32) (ix1 i) := by
  rw [V_main_v3]
  refine shapeCast_apply (s := S131072) (t := S1024x128) _ _ (ix2 a b) (ix1 i) ?_
  rw [Shape.rowMajor_val_one, Shape.rowMajor_val_two]
  exact hi

theorem scale_lo (c : Dev nD) (t : Fin cfg0.N) (a : Fin 16) (b : Fin 128) (i : Fin 131072) (hi : i.val = at_ t.val * 2048 + a.val * 128 + b.val) :
    (iblk m c 2 t : Vec Ideal S16x128 .f32) (ix2 a b) = (m ((c : Thread nD τ).loc main_arg2) : Vec Ideal S131072 .f32) (ix1 i) := by
  have ht := at_lt t
  rw [← scales_apply m c ⟨at_ t.val * 16 + a.val, by omega⟩ b i (by show _ = (at_ t.val * 16 + a.val) * 128 + _; omega)]
  refine congrArg (V m c main_v3 : Vec Ideal S1024x128 .f32) (funext fun x => Fin.ext ?_)
  obtain ⟨-, -, ⟨h0, h1⟩, -⟩ := idx_facts t
  fin_cases x
  · exact (win0_2.rect_emb_val t (ix2 a b) 0).trans (by rw [h0]; rfl)
  · exact (win0_2.rect_emb_val t (ix2 a b) 1).trans (by rw [h1]; show 0 * 128 + b.val = b.val; omega)

theorem scale_hi (c : Dev nD) (t : Fin cfg0.N) (a : Fin 16) (b : Fin 128) (i : Fin 131072) (hi : i.val = (at_ t.val + 32) * 2048 + a.val * 128 + b.val) :
    (iblk m c 3 t : Vec Ideal S16x128 .f32) (ix2 a b) = (m ((c : Thread nD τ).loc main_arg2) : Vec Ideal S131072 .f32) (ix1 i) := by
  have ht := at_lt t
  rw [← scales_apply m c ⟨(at_ t.val + 32) * 16 + a.val, by omega⟩ b i (by show _ = ((at_ t.val + 32) * 16 + a.val) * 128 + _; omega)]
  refine congrArg (V m c main_v3 : Vec Ideal S1024x128 .f32) (funext fun x => Fin.ext ?_)
  obtain ⟨-, -, -, ⟨h0, h1⟩, -⟩ := idx_facts t
  fin_cases x
  · exact (win0_3.rect_emb_val t (ix2 a b) 0).trans (by rw [h0]; rfl)
  · exact (win0_3.rect_emb_val t (ix2 a b) 1).trans (by rw [h1]; show 0 * 128 + b.val = b.val; omega)

/-- What grid point `t` writes back is its block of the table. -/
theorem block_eq (c : Dev nD) (t : Fin cfg0.N) (r : Fin 2048) (l : Fin 128) (i : Fin 65536) (hi : i.val = at_ t.val * 2048 + r.val) :
    block (iblk m c 0 t) (iblk m c 1 t) (iblk m c 2 t) (iblk m c 3 t) (queries m c) (ix2 r l) = result m c (ix2 i l) := by
  have ht := at_lt t
  refine block_eq_table (queries m c) _ _ _ _ _ _ r l i (fun k h => ?_) (fun k h => ?_) (fun a b hr h => ?_) (fun a b hr h => ?_)
  · exact codes_lo m c t r k _ ((if_pos h).trans hi)
  · exact codes_hi m c t r k _ ((if_neg h).trans (by omega))
  · exact scale_lo m c t a b _ ((if_pos h).trans (by omega))
  · exact scale_hi m c t a b _ ((if_neg h).trans (by omega))

theorem flushed_eq (c : Dev nD) (t : Fin cfg0.N) : (dats m 0 c).flushed 6 t = (win0_6.blk t).view.read (Elt Ideal) (result m c) := by
  have e : (dats m 0 c).after 6 t = block (iblk m c 0 t) (iblk m c 1 t) (iblk m c 2 t) (iblk m c 3 t) (queries m c) := by
    rw [after0_6, matrix, V_main_v1]
    exact out_eq _ _ _ _ _
  show (cfg0.win 6).cut (grid0.coords t) ((dats m 0 c).after 6 t) = _
  rw [e]
  funext j
  obtain ⟨r, l, rfl⟩ : ∃ (r : Fin 2048) (l : Fin 128), j = ix2 r l := ⟨j 0, j 1, eq_ix2 j⟩
  have ht := at_lt t
  refine (block_eq m c t r l ⟨at_ t.val * 2048 + r.val, by omega⟩ rfl).trans ?_
  refine congrArg (result m c) (funext fun x => Fin.ext ?_)
  obtain ⟨-, -, -, -, ⟨h0, h1⟩⟩ := idx_facts t
  fin_cases x
  · exact ((win0_6.rect_emb_val t (ix2 r l) 0).trans (by rw [h0]; rfl)).symm
  · exact ((win0_6.rect_emb_val t (ix2 r l) 1).trans (by rw [h1]; show 0 * 128 + l.val = l.val; omega)).symm

/-- The blocks tile the table: row `i` lies in block `i / 2048`. -/
theorem cover (i : S65536x128.Idx) : ∃ t : Fin cfg0.N, (cfg0.win 6).flush t = true ∧ i ∈ ((cfg0.win 6).blk t).view.set := by
  have h0 : (i 0 : Nat) < 65536 := (i 0).isLt
  have h1 : (i 1 : Nat) < 128 := (i 1).isLt
  obtain ⟨t, ht⟩ : ∃ t : Fin cfg0.N, at_ t.val = (i 0 : Nat) / 2048 :=
    ⟨⟨(i 0 : Nat) / 2048 % 4 * 8 + (i 0 : Nat) / 2048 / 4, by show _ < 32; omega⟩, by
      show ((i 0 : Nat) / 2048 % 4 * 8 + (i 0 : Nat) / 2048 / 4) % 8 * 4 + ((i 0 : Nat) / 2048 % 4 * 8 + (i 0 : Nat) / 2048 / 4) / 8 = _
      omega⟩
  refine ⟨t, flush0_6 _, ?_⟩
  show i ∈ ((View.whole main_v4_0).slice (win0_6.rect t)).set
  rw [View.set_slice_whole, Rect.mem_set_unit]
  obtain ⟨-, -, -, -, ⟨e0, e1⟩⟩ := idx_facts t
  intro a
  fin_cases a
  · show win0_6.index _ 0 * 2048 ≤ (i 0 : Nat) ∧ (i 0 : Nat) < win0_6.index _ 0 * 2048 + 2048
    rw [e0, ht]; omega
  · show win0_6.index _ 1 * 128 ≤ (i 1 : Nat) ∧ (i 1 : Nat) < win0_6.index _ 1 * 128 + 128
    rw [e1]; omega

theorem final (c : Dev nD) : (dats m 0 c).arrAt 6 cfg0.N = result m c :=
  (dats m 0 c).arrAt_eq_of_cover 6 (result m c) (fun t _ => flushed_eq m c t) cover

/-! ## The words of marks -/

/-- The words of device `c`'s arguments. -/
def marks (c : Dev nD) : Vec Ideal S1x8192 .i32 :=
  bits (queries m c) (m ((c : Thread nD τ).loc main_arg1)) (m ((c : Thread nD τ).loc main_arg2))

/-- A row of the block at grid point `t` has a nonzero entry in the lanes of group `s` where the centroid of the row and
    of the group's half scores for one of the group's queries. -/
theorem blockHit (c : Dev nD) (t : Fin cfg0.N) (r : Fin 2048) (w : Fin 8192) (hw : w.val = t.val / 8 * 2048 + r.val) (a g s : Nat)
    (hg : g < 2) (hs : s = if a < 8 then g else 2 + g) (ha : a % 8 = t.val % 8) (ha' : a < 16) :
    (∃ l : Fin 128, l.val / 32 = s ∧ block (iblk m c 0 t) (iblk m c 1 t) (iblk m c 2 t) (iblk m c 3 t) (queries m c) (ix2 r l) ≠ 0)
      ↔ Hit (queries m c) (m ((c : Thread nD τ).loc main_arg1)) (m ((c : Thread nD τ).loc main_arg2)) w a g := by
  have ht : t.val < 32 := Nat.lt_of_lt_of_eq t.isLt N_0
  have hw' := w.isLt
  have hr' := r.isLt
  have hat := at_lt t
  have ei : at_ t.val * 2048 + r.val = t.val % 8 * 8192 + w.val := by unfold at_; omega
  have e : ∀ (l : Fin 128) (x : Fin 32), l.val = 32 * s + x.val →
      block (iblk m c 0 t) (iblk m c 1 t) (iblk m c 2 t) (iblk m c 3 t) (queries m c) (ix2 r l)
        = score (queries m c) (m ((c : Thread nD τ).loc main_arg1)) (m ((c : Thread nD τ).loc main_arg2))
            ⟨(8192 * a + w.val) % 131072, Nat.mod_lt _ (by decide)⟩ (placed (queries m c) ⟨(32 * g + x.val) % 64, Nat.mod_lt _ (by decide)⟩) := by
    intro l x hl
    have hx := x.isLt
    have hi : at_ t.val * 2048 + r.val < 65536 := by omega
    have hc : (8192 * a + w.val) % 131072 = 8192 * a + w.val := Nat.mod_eq_of_lt (by omega)
    refine (block_eq m c t r l ⟨at_ t.val * 2048 + r.val, hi⟩ rfl).trans ?_
    show score (queries m c) (m ((c : Thread nD τ).loc main_arg1)) (m ((c : Thread nD τ).loc main_arg2))
      (centroid ⟨at_ t.val * 2048 + r.val, hi⟩ l) (placed (queries m c) (lane l)) = _
    have e1 : centroid ⟨at_ t.val * 2048 + r.val, hi⟩ l = ⟨(8192 * a + w.val) % 131072, Nat.mod_lt _ (by decide)⟩ := Fin.ext (by
      show (if l.val < 64 then at_ t.val * 2048 + r.val else 65536 + (at_ t.val * 2048 + r.val)) = (8192 * a + w.val) % 131072
      rw [ei, hc]
      by_cases h8 : a < 8
      · rw [if_pos h8] at hs
        rw [if_pos (by omega), ← ha, Nat.mod_eq_of_lt h8, Nat.mul_comm]
      · rw [if_neg h8] at hs
        rw [if_neg (by omega), ← ha, show a % 8 = a - 8 from by omega]
        omega)
    have e2 : lane l = ⟨(32 * g + x.val) % 64, Nat.mod_lt _ (by decide)⟩ := Fin.ext (by
      show l.val % 64 = (32 * g + x.val) % 64
      by_cases h8 : a < 8
      · rw [if_pos h8] at hs
        omega
      · rw [if_neg h8] at hs
        omega)
    rw [e1, e2]
  have hs4 : s < 4 := by
    rw [hs]
    split <;> omega
  constructor
  · rintro ⟨l, hl, h⟩
    refine ⟨⟨l.val % 32, Nat.mod_lt _ (by decide)⟩, ?_⟩
    rw [← e l ⟨l.val % 32, Nat.mod_lt _ (by decide)⟩ (by show l.val = 32 * s + l.val % 32; omega)]
    exact h
  · rintro ⟨x, h⟩
    have hx := x.isLt
    refine ⟨⟨32 * s + x.val, by omega⟩, by show (32 * s + x.val) / 32 = s; omega, ?_⟩
    rw [e ⟨32 * s + x.val, by omega⟩ x rfl]
    exact h

theorem blockMarks_eq (c : Dev nD) (t : Fin cfg0.N) (r : Fin 2048) (w : Fin 8192) (hw : w.val = t.val / 8 * 2048 + r.val) :
    blockMarks (t.val % 8) (block (iblk m c 0 t) (iblk m c 1 t) (iblk m c 2 t) (iblk m c 3 t) (queries m c)) r
      = pairMarks (queries m c) (m ((c : Thread nD τ).loc main_arg1)) (m ((c : Thread nD τ).loc main_arg2)) w (t.val % 8) := by
  have h8 : t.val % 8 < 8 := Nat.mod_lt _ (by decide)
  classical
  have h := fun a g s hg hs ha ha' => blockHit m c t r w hw a g s hg hs ha ha'
  unfold blockMarks pairMarks mark
  congr 1
  · congr 1
    · exact if_congr (h (t.val % 8) 0 0 (by decide) (by rw [if_pos h8]) (by omega) (by omega)) rfl rfl
    · exact if_congr (h (t.val % 8) 1 1 (by decide) (by rw [if_pos h8]) (by omega) (by omega)) rfl rfl
  · congr 1
    · exact if_congr (h (8 + t.val % 8) 0 2 (by decide) (by rw [if_neg (by omega)]) (by omega) (by omega)) rfl rfl
    · exact if_congr (h (8 + t.val % 8) 1 3 (by decide) (by rw [if_neg (by omega)]) (by omega) (by omega)) rfl rfl

/-- What the points of a row up to this one have set. -/
theorem wordsAt_apply (c : Dev nD) (t : Fin cfg0.N) (d : Vec Ideal S1x2048 .i32) (r : Fin 2048) (w : Fin 8192) (hw : w.val = t.val / 8 * 2048 + r.val) :
    wordsAt m c t d (ix2 0 r) = if t.val % 8 = 0 then pairMarks (queries m c) (m ((c : Thread nD τ).loc main_arg1)) (m ((c : Thread nD τ).loc main_arg2)) w (t.val % 8)
      else d (ix2 0 r) ||| pairMarks (queries m c) (m ((c : Thread nD τ).loc main_arg1)) (m ((c : Thread nD τ).loc main_arg2)) w (t.val % 8) := by
  rw [← blockMarks_eq m c t r w hw]
  unfold wordsAt
  rw [coord1, matrix, V_main_v1]
  rw [words_eq ⟨t.val % 8, Nat.mod_lt _ (by decide)⟩]
  rfl

theorem wordsUpTo_apply (c : Dev nD) (r : Fin 2048) : ∀ (n : Nat) (hn : n < 32) (w : Fin 8192), w.val = n / 8 * 2048 + r.val →
    wordsUpTo m c n (ix2 0 r) = marksUpTo (queries m c) (m ((c : Thread nD τ).loc main_arg1)) (m ((c : Thread nD τ).loc main_arg2)) w (n % 8 + 1) := by
  intro n
  induction n with
  | zero =>
    intro _ w hw
    have hp : (pt 0).val = 0 := rfl
    rw [wordsUpTo, wordsAt_apply m c (pt 0) _ r w (by rw [hp]; exact hw), hp, if_pos rfl, ← marksUpTo_one]
  | succ n ih =>
    intro hn w hw
    have hp : (pt (n + 1)).val = n + 1 := Nat.mod_eq_of_lt hn
    rw [wordsUpTo, wordsAt_apply m c (pt (n + 1)) _ r w (by rw [hp]; exact hw), hp]
    by_cases h : (n + 1) % 8 = 0
    · rw [if_pos h, h, ← marksUpTo_one]
    · rw [if_neg h, ih (by omega) w (by rw [hw]; omega), show n % 8 + 1 = (n + 1) % 8 from by omega]
      exact marks_or _ _ _ w _ (Nat.mod_lt _ (by decide))

theorem idx7 : ∀ t : Fin cfg0.N, win0_7.index t 0 = 0 ∧ win0_7.index t 1 = t.val / 8 :=
  (by decide +kernel : ∀ t : Fin grid0.N, win0_7.index t 0 = 0 ∧ win0_7.index t 1 = t.val / 8)

theorem flushed_marks (c : Dev nD) (t : Fin cfg0.N) (hf : (cfg0.win 7).flush t = true) :
    (dats m 0 c).flushed 7 t = (win0_7.blk t).view.read (Elt Ideal) (marks m c) := by
  have ht : t.val < 32 := Nat.lt_of_lt_of_eq t.isLt N_0
  have h7 : t.val % 8 = 7 := (flush0_7 t).mp hf
  show (cfg0.win 7).cut (grid0.coords t) ((dats m 0 c).after 7 t) = _
  rw [after0_7]
  funext j
  obtain ⟨z, r, rfl⟩ : ∃ (z : Fin 1) (r : Fin 2048), j = ix2 z r := ⟨j 0, j 1, eq_ix2 j⟩
  obtain rfl : z = 0 := Subsingleton.elim _ _
  have hr := r.isLt
  refine (wordsUpTo_apply m c r t.val ht ⟨t.val / 8 * 2048 + r.val, by omega⟩ rfl).trans ?_
  rw [h7]
  refine (marksUpTo_eight _ _ _ _).trans ?_
  show marks m c (ix2 0 _) = _
  refine congrArg (marks m c) (funext fun x => Fin.ext ?_)
  obtain ⟨h0, h1⟩ := idx7 t
  fin_cases x
  · exact ((win0_7.rect_emb_val t (ix2 0 r) 0).trans (by rw [h0]; rfl)).symm
  · exact ((win0_7.rect_emb_val t (ix2 0 r) 1).trans (by rw [h1]; rfl)).symm

theorem cover_marks (i : S1x8192.Idx) : ∃ t : Fin cfg0.N, (cfg0.win 7).flush t = true ∧ i ∈ ((cfg0.win 7).blk t).view.set := by
  have h0 : (i 0 : Nat) < 1 := (i 0).isLt
  have h1 : (i 1 : Nat) < 8192 := (i 1).isLt
  obtain ⟨t, ht⟩ : ∃ t : Fin cfg0.N, t.val = (i 1 : Nat) / 2048 * 8 + 7 := ⟨⟨(i 1 : Nat) / 2048 * 8 + 7, by show _ < 32; omega⟩, rfl⟩
  refine ⟨t, (flush0_7 _).mpr (by rw [ht]; omega), ?_⟩
  show i ∈ ((View.whole main_v4_1).slice (win0_7.rect t)).set
  rw [View.set_slice_whole, Rect.mem_set_unit]
  obtain ⟨e0, e1⟩ := idx7 t
  intro a
  fin_cases a
  · show win0_7.index _ 0 * 1 ≤ (i 0 : Nat) ∧ (i 0 : Nat) < win0_7.index _ 0 * 1 + 1
    rw [e0]; omega
  · show win0_7.index _ 1 * 2048 ≤ (i 1 : Nat) ∧ (i 1 : Nat) < win0_7.index _ 1 * 2048 + 2048
    rw [e1, ht]
    omega

theorem final_marks (c : Dev nD) : (dats m 0 c).arrAt 7 cfg0.N = marks m c :=
  (dats m 0 c).arrAt_eq_of_cover 7 (marks m c) (fun t h => flushed_marks m c t h) cover_marks

/-! ## The table of cuts -/

/-- The table of cuts of device `c`'s arguments. -/
def parts (c : Dev nD) : Vec Ideal S8x128 .i32 := cutTable (queries m c) (m ((c : Thread nD τ).loc main_arg3))

theorem V_main_v2 (c : Dev nD) : V m c main_v2
    = shapeCast S354x128 (pad S45312 ![0] ![311] ![0] (m ((c : Thread nD τ).loc main_arg3) : Vec Ideal S45001 .i32) (constantI S_ 32 3000000#32) pads_S45001_S45312_03110 h_S_)
        shapeCasts_S45312_S354x128 := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_results
  rfl

theorem padded (c : Dev nD) : Padded (V m c main_v2 : Vec Ideal S354x128 .i32) (m ((c : Thread nD τ).loc main_arg3)) := by
  intro a b
  have ha := a.isLt
  have hb := b.isLt
  rw [V_main_v2]
  refine (shapeCast_apply (s := S45312) (t := S354x128) _ _ (ix2 a b) (ix1 ⟨a.val * 128 + b.val, by omega⟩) (by
    rw [Shape.rowMajor_val_one, Shape.rowMajor_val_two]
    rfl)).trans ?_
  by_cases h : a.val * 128 + b.val < 45001
  · rw [dif_pos h]
    refine pad_apply_of_inside _ _ _ _ _ _ _ _ (ix1 ⟨a.val * 128 + b.val, h⟩) fun x => ?_
    fin_cases x
    show a.val * 128 + b.val = 0 + (a.val * 128 + b.val) * (0 + 1)
    omega
  · rw [dif_neg h]
    refine (pad_apply_of_not_inside _ _ _ _ _ _ _ _ 0 fun hx => h ?_).trans rfl
    have h3 : (a.val * 128 + b.val - 0) / (0 + 1) < 45001 := hx.2.2
    omega

theorem cutsOf_eq (c : Dev nD) : cutsOf m c = parts m c := by
  rw [cutsOf, V_main_v1]
  exact metaOf_eq _ _ _ (padded m c)

theorem idx8 : ∀ t : Fin cfg0.N, win0_8.index t 0 = 0 ∧ win0_8.index t 1 = 0 :=
  (by decide +kernel : ∀ t : Fin grid0.N, win0_8.index t 0 = 0 ∧ win0_8.index t 1 = 0)

theorem flushed_cuts (c : Dev nD) (t : Fin cfg0.N) : (dats m 0 c).flushed 8 t = (win0_8.blk t).view.read (Elt Ideal) (parts m c) := by
  show (cfg0.win 8).cut (grid0.coords t) ((dats m 0 c).after 8 t) = _
  rw [after0_8, cutsOf_eq]
  funext j
  obtain ⟨r, l, rfl⟩ : ∃ (r : Fin 8) (l : Fin 128), j = ix2 r l := ⟨j 0, j 1, eq_ix2 j⟩
  show parts m c (ix2 r l) = _
  refine congrArg (parts m c) (funext fun x => Fin.ext ?_)
  obtain ⟨h0, h1⟩ := idx8 t
  fin_cases x
  · exact ((win0_8.rect_emb_val t (ix2 r l) 0).trans (by rw [h0]; show 0 * 8 + r.val = r.val; omega)).symm
  · exact ((win0_8.rect_emb_val t (ix2 r l) 1).trans (by rw [h1]; show 0 * 128 + l.val = l.val; omega)).symm

theorem cover_cuts (i : S8x128.Idx) : ∃ t : Fin cfg0.N, (cfg0.win 8).flush t = true ∧ i ∈ ((cfg0.win 8).blk t).view.set := by
  have h0 : (i 0 : Nat) < 8 := (i 0).isLt
  have h1 : (i 1 : Nat) < 128 := (i 1).isLt
  obtain ⟨t, ht⟩ : ∃ t : Fin cfg0.N, t.val = 31 := ⟨⟨31, by show _ < 32; omega⟩, rfl⟩
  refine ⟨t, (flush0_8 _).mpr (by rw [ht]), ?_⟩
  show i ∈ ((View.whole main_v4_2).slice (win0_8.rect t)).set
  rw [View.set_slice_whole, Rect.mem_set_unit]
  obtain ⟨e0, e1⟩ := idx8 t
  intro a
  fin_cases a
  · show win0_8.index _ 0 * 8 ≤ (i 0 : Nat) ∧ (i 0 : Nat) < win0_8.index _ 0 * 8 + 8
    rw [e0]; omega
  · show win0_8.index _ 1 * 128 ≤ (i 1 : Nat) ∧ (i 1 : Nat) < win0_8.index _ 1 * 128 + 128
    rw [e1]; omega

theorem final_cuts (c : Dev nD) : (dats m 0 c).arrAt 8 cfg0.N = parts m c :=
  (dats m 0 c).arrAt_eq_of_cover 8 (parts m c) (fun t _ => flushed_cuts m c t) cover_cuts

/-- The run: the three arrays end holding the table, the words and the cuts, the arguments unchanged. -/
theorem run : θ_run defs (onTc (τ := τ) (main (F := Ideal))) ⟨m, fun _ => 0, ρ⟩ fun r => ∀ c : Dev nD,
      r.2.mem ((c : Thread nD τ).loc main_v4_0) = result m c
      ∧ r.2.mem ((c : Thread nD τ).loc main_v4_1) = marks m c
      ∧ r.2.mem ((c : Thread nD τ).loc main_v4_2) = parts m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2.1.trans (final_marks m c), (h c).2.2.1.trans (final_cuts m c), (h c).2.2.2⟩) (values m ρ)

end Cert.Table.Kernel
end
-- ==== Proof.Table.ReferenceCuts.lean ====
/-
  The table of cuts as the reference's host operations compute it from the places and the offsets.
-/
module

public import proofs.«01_k».proof.Proof.Table.Marks
public import proofs.«01_k».proof.Proof.Gen.TablesRefIdeal.Value
public import Idealize.ShloMosaic.Lib.Pointwise.Tactic
public import Idealize.ShloMosaic.Lib.Pointwise.Reduce
public import Idealize.ShloMosaic.Lib.KernelVsHost

@[expose] public section
noncomputable section
namespace Cert.Table.Reference
open Idealize.ShloMosaic Idealize.ShloMosaic.TcCoe Idealize.SL.Sem Cert.TablesRefIdeal Cert.TablesRefIdeal.Gen

theorem host_sum_places (x : IVec S64x64 32) (p : Fin 64) :
    Host.reduce IntOp.addi x (constantI S_ 32 0#32) reducesTo_S64x64_S64_d0 h_S_ (ix1 p) = ∑ n : Fin 64, x (ix2 n p) := by
  refine (Host.reduce_eq_fold IntOp.addi x _ reducesTo_S64x64_S64_d0 h_S_ (ix1 p)).trans ?_
  rw [reducesTo_S64x64_S64_d0.fold_fiber_r2_a0]
  exact (fold_addi _ _ _).trans (zero_add _)

theorem host_sum_offsets (x : IVec S45001x128 32) (l : Fin 128) :
    Host.reduce IntOp.addi x (constantI S_ 32 0#32) reducesTo_S45001x128_S128_d0 h_S_ (ix1 l) = ∑ d : Fin 45001, x (ix2 d l) := by
  refine (Host.reduce_eq_fold IntOp.addi x _ reducesTo_S45001x128_S128_d0 h_S_ (ix1 l)).trans ?_
  rw [reducesTo_S45001x128_S128_d0.fold_fiber_r2_a0]
  exact (fold_addi _ _ _).trans (zero_add _)

/-! ## The queries in the order of their places -/

/-- The query of each place, from the place of each query. -/
def placedOf (y : IVec S64 32) : IVec S64 32 :=
  Host.reduce IntOp.addi (select (cmpi .eq (broadcastInDim S64x64 ![0, 1] bcast_S64x1_S64x64_0_1 (broadcastInDim S64x1 ![0] bcast_S64_S64x1_0 y))
      (broadcastInDim S64x64 ![0, 1] bcast_S1x64_S64x64_0_1 (broadcastInDim S1x64 ![1] bcast_S64_S1x64_1 (iotaInDim S64 32 0))))
    (broadcastInDim S64x64 ![0, 1] bcast_S64x1_S64x64_0_1 (broadcastInDim S64x1 ![0] bcast_S64_S64x1_0 (iotaInDim S64 32 0)))
    (broadcastInDim S64x64 ![] bcast_S_S64x64 (id (constantI S_ 32 0#32)))) (constantI S_ 32 0#32) reducesTo_S64x64_S64_d0 h_S_

theorem eq_index (a b : Fin 64) : IntOp.cmpi .eq (BitVec.ofNat 32 a.val) (BitVec.ofNat 32 b.val) = if a.val = b.val then 1#1 else 0#1 := by
  revert a b
  decide +kernel

theorem placedOf_apply (q : Queries) (y : IVec S64 32) (h : ∀ n, y (ix1 n) = BitVec.ofNat 32 (place q n)) (p : Fin 64) :
    placedOf y (ix1 p) = BitVec.ofNat 32 (placed q p).val := by
  unfold placedOf
  refine (host_sum_places _ p).trans ?_
  refine (Finset.sum_congr rfl fun n _ => (?_ : _ = if n = placed q p then BitVec.ofNat 32 n.val else 0#32)).trans ?_
  · have e : (select (cmpi .eq (broadcastInDim S64x64 ![0, 1] bcast_S64x1_S64x64_0_1 (broadcastInDim S64x1 ![0] bcast_S64_S64x1_0 y))
          (broadcastInDim S64x64 ![0, 1] bcast_S1x64_S64x64_0_1 (broadcastInDim S1x64 ![1] bcast_S64_S1x64_1 (iotaInDim S64 32 0))))
        (broadcastInDim S64x64 ![0, 1] bcast_S64x1_S64x64_0_1 (broadcastInDim S64x1 ![0] bcast_S64_S64x1_0 (iotaInDim S64 32 0)))
        (broadcastInDim S64x64 ![] bcast_S_S64x64 (id (constantI S_ 32 0#32))) : IVec S64x64 32) (ix2 n p)
        = Scalar.select (IntOp.cmpi .eq (y (ix1 n)) (BitVec.ofNat 32 p.val)) (BitVec.ofNat 32 n.val) 0#32 := by
      pointwise
      rfl
    rw [e, h, eq_index ⟨place q n, place_lt q n⟩ p]
    by_cases t : n = placed q p
    · rw [if_pos t, if_pos ((place_eq_iff q n p).2 t)]
      rfl
    · rw [if_neg t, if_neg fun u => t ((place_eq_iff q n p).1 u)]
      rfl
  · exact (Finset.sum_ite_eq' Finset.univ (placed q p) _).trans (if_pos (Finset.mem_univ _))

/-! ## The cuts -/

/-- How many offsets lie below `93750` times the lane. -/
def belowOf (off : IVec S45001 32) : IVec S128 32 :=
  Host.reduce IntOp.addi (extui 32 (cmpi .slt (broadcastInDim S45001x128 ![0, 1] bcast_S45001x1_S45001x128_0_1 (broadcastInDim S45001x1 ![0] bcast_S45001_S45001x1_0 off))
      (broadcastInDim S45001x128 ![0, 1] bcast_S1x128_S45001x128_0_1 (muli (broadcastInDim S1x128 ![] bcast_S_S1x128 (constantI S_ 32 93750#32))
        (broadcastInDim S1x128 ![1] bcast_S128_S1x128_1 (iotaInDim S128 32 0))))) natLt_1_32) (constantI S_ 32 0#32) reducesTo_S45001x128_S128_d0 h_S_

theorem below_word (x y : BitVec 32) : (IntOp.cmpi .slt x y).setWidth 32 = if x.slt y then 1#32 else 0#32 := by
  show (BitVec.ofBool (x.slt y)).setWidth 32 = _
  cases x.slt y <;> rfl

theorem step_word : ∀ l : Fin 128, IntOp.muli 93750#32 (BitVec.ofNat 32 l.val) = BitVec.ofNat 32 (93750 * l.val) := by decide +kernel

theorem belowOf_apply (off : IVec S45001 32) (l : Fin 128) : belowOf off (ix1 l) = offsetsBelow off (BitVec.ofNat 32 (93750 * l.val)) := by
  rw [← step_word]
  unfold belowOf offsetsBelow
  refine (host_sum_offsets _ l).trans (Finset.sum_congr rfl fun d _ => ?_)
  rw [← below_word]
  generalize (93750#32 : BitVec 32) = u
  pointwise

/-- The cuts, from the numbers of offsets. -/
def cutsOf (y : IVec S128 32) : IVec S128 32 :=
  select (andi (cmpi .sgt (iotaInDim S128 32 0) (broadcastInDim S128 ![] bcast_S_S128 (constantI S_ 32 0#32)))
      (cmpi .slt (iotaInDim S128 32 0) (broadcastInDim S128 ![] bcast_S_S128 (constantI S_ 32 32#32))))
    (minsi (muli (Host.divsi y (broadcastInDim S128 ![] bcast_S_S128 (constantI S_ 32 8#32))) (broadcastInDim S128 ![] bcast_S_S128 (constantI S_ 32 8#32)))
      (broadcastInDim S128 ![] bcast_S_S128 (constantI S_ 32 45000#32)))
    (id (select (cmpi .eq (iotaInDim S128 32 0) (broadcastInDim S128 ![] bcast_S_S128 (constantI S_ 32 32#32)))
      (broadcastInDim S128 ![] bcast_S_S128 (constantI S_ 32 45000#32)) (broadcastInDim S128 ![] bcast_S_S128 (constantI S_ 32 0#32))))

theorem inner_word : ∀ l : Fin 128, IntOp.andi (IntOp.cmpi .sgt (BitVec.ofNat 32 l.val) 0#32) (IntOp.cmpi .slt (BitVec.ofNat 32 l.val) 32#32)
    = if 0 < l.val ∧ l.val < 32 then 1#1 else 0#1 := by
  decide +kernel

theorem last_word : ∀ l : Fin 128, IntOp.cmpi .eq (BitVec.ofNat 32 l.val) 32#32 = if l.val = 32 then 1#1 else 0#1 := by decide +kernel

theorem div_word (x : BitVec 32) : IntOp.divsi .host x 8#32 = x.sdiv 8#32 := by
  unfold IntOp.divsi
  refine if_neg ?_
  rintro (h | ⟨-, h⟩) <;> exact absurd h (by decide)

theorem cutsOf_apply (y : IVec S128 32) (l : Fin 128) : cutsOf y (ix1 l)
    = if 0 < l.val ∧ l.val < 32 then IntOp.minsi ((y (ix1 l)).sdiv 8#32 * 8#32) 45000#32 else if l.val = 32 then 45000#32 else 0#32 := by
  have e : cutsOf y (ix1 l) = Scalar.select (IntOp.andi (IntOp.cmpi .sgt (BitVec.ofNat 32 l.val) 0#32) (IntOp.cmpi .slt (BitVec.ofNat 32 l.val) 32#32))
      (IntOp.minsi (IntOp.muli (IntOp.divsi .host (y (ix1 l)) 8#32) 8#32) 45000#32)
      (Scalar.select (IntOp.cmpi .eq (BitVec.ofNat 32 l.val) 32#32) 45000#32 0#32) := rfl
  rw [e, inner_word, last_word, div_word]
  have s1 (x z : BitVec 32) : Scalar.select 1#1 x z = x := rfl
  have s0 (x z : BitVec 32) : Scalar.select 0#1 x z = z := rfl
  by_cases h : 0 < l.val ∧ l.val < 32
  · rw [if_pos h, if_pos h, s1]
    rfl
  · rw [if_neg h, if_neg h, s0]
    by_cases h' : l.val = 32
    · rw [if_pos h', if_pos h', s1]
    · rw [if_neg h', if_neg h', s0]

/-! ## The table -/

/-- The table of a row of cuts and a row of queries. -/
def rowsOf (y z : IVec S128 32) : IVec S8x128 32 :=
  select (broadcastInDim S8x128 ![0, 1] bcast_S8x1_S8x128_0_1 (cmpi .eq (broadcastInDim S8x1 ![0] bcast_S8_S8x1_0 (iotaInDim S8 32 0))
      (broadcastInDim S8x1 ![] bcast_S_S8x1 (constantI S_ 32 0#32))))
    (broadcastInDim S8x128 ![0, 1] bcast_S1x128_S8x128_0_1 (broadcastInDim S1x128 ![1] bcast_S128_S1x128_1 y))
    (broadcastInDim S8x128 ![0, 1] bcast_S1x128_S8x128_0_1 (broadcastInDim S1x128 ![1] bcast_S128_S1x128_1 z))

theorem first_word : ∀ r : Fin 8, IntOp.cmpi .eq (BitVec.ofNat 32 r.val) 0#32 = if r.val = 0 then 1#1 else 0#1 := by decide +kernel

theorem rowsOf_apply (y z : IVec S128 32) (r : Fin 8) (l : Fin 128) : rowsOf y z (ix2 r l) = if r.val = 0 then y (ix1 l) else z (ix1 l) := by
  have e : rowsOf y z (ix2 r l) = Scalar.select (IntOp.cmpi .eq (BitVec.ofNat 32 r.val) 0#32) (y (ix1 l)) (z (ix1 l)) := by
    unfold rowsOf
    pointwise
  rw [e, first_word]
  split <;> rfl

/-- The queries in the order of their places, filled up with zeros to a row. -/
def rowOf (x : IVec S64 32) : IVec S128 32 := pad S128 ![0] ![64] ![0] x (id (constantI S_ 32 0#32)) pads_S64_S128_0640 h_S_

theorem rowOf_apply (x : IVec S64 32) (l : Fin 128) : rowOf x (ix1 l) = if h : l.val < 64 then x (ix1 ⟨l.val, h⟩) else 0#32 := by
  unfold rowOf
  by_cases h : l.val < 64
  · rw [dif_pos h]
    refine pad_apply_of_inside _ _ _ _ _ _ _ _ (ix1 ⟨l.val, h⟩) fun a => ?_
    fin_cases a
    show l.val = 0 + l.val * (0 + 1)
    omega
  · rw [dif_neg h]
    refine (pad_apply_of_not_inside _ _ _ _ _ _ _ _ 0 fun hx => h ?_).trans rfl
    have h3 : (l.val - 0) / (0 + 1) < 64 := hx.2.2
    omega

/-- The table of cuts as the host computes it from the places and the offsets. -/
def partsOf (y : IVec S64 32) (off : IVec S45001 32) : IVec S8x128 32 := rowsOf (cutsOf (belowOf off)) (rowOf (placedOf y))

theorem partsOf_eq (q : Queries) (y : IVec S64 32) (h : ∀ n, y (ix1 n) = BitVec.ofNat 32 (place q n)) (off : IVec S45001 32) :
    partsOf y off = cutTable q off := by
  funext x
  obtain ⟨r, l, rfl⟩ : ∃ (r : Fin 8) (l : Fin 128), x = ix2 r l := ⟨x 0, x 1, eq_ix2 x⟩
  have e : cutTable q off (ix2 r l)
      = if r.val = 0 then cuts off l.val else if h : l.val < 64 then BitVec.ofNat 32 (placed q ⟨l.val, h⟩).val else 0#32 := rfl
  have ec : cutsOf (belowOf off) (ix1 l) = cuts off l.val := by
    rw [cutsOf_apply, belowOf_apply, cuts, cut]
  have ep : rowOf (placedOf y) (ix1 l) = if h : l.val < 64 then BitVec.ofNat 32 (placed q ⟨l.val, h⟩).val else 0#32 := by
    rw [rowOf_apply]
    by_cases t : l.val < 64
    · rw [dif_pos t, dif_pos t, placedOf_apply q y h]
    · rw [dif_neg t, dif_neg t]
  rw [e, partsOf, rowsOf_apply, ec, ep]

end Cert.Table.Reference
end
-- ==== Proof.Table.Reference.lean ====
/-
  The reference returns the table, the words of marks and the table of cuts: the places it counts on the host are the
  places, its two payloads are the table and the words of what it loads, each one block that is the whole array, and the
  cuts are the host's.
-/
module

public import proofs.«01_k».proof.Proof.Table.Words
public import proofs.«01_k».proof.Proof.Table.ReferenceCuts
public import Idealize.ShloMosaic.Lib.Pointwise.Tactic
public import Idealize.ShloMosaic.Lib.Pointwise.Reduce
public import Idealize.ShloMosaic.Lib.MatmulPlain
public import Idealize.ShloMosaic.Lib.StableHlo.Predicate

@[expose] public section
noncomputable section
namespace Cert.Table.Reference
open Idealize.ShloMosaic Idealize.ShloMosaic.TcCoe Idealize.SL.Sem Cert.TablesRefIdeal Cert.TablesRefIdeal.Gen
open Idealize.ShloMosaic.Pipeline (Dat Window)

/-- The scores of all centroids for all queries, as the body computes them before it lays them out as the table. -/
def scores (v0 : Vec Ideal S131072x128 .fp8e4m3) (v2 : Vec Ideal S64x128 .bf16) (v5 : Vec Ideal S131072x1 .f32) : FVec Ideal S131072x64 .f32 :=
  maximumf (subf (mulf (matmul dot_S131072x128_S64x128_S131072x64_1_1_0_0_n_n none (φ₁ := .bf16) (φ₂ := .bf16) v0 v2 (constant S131072x64 .f32 0x00000000#32))
    (broadcastTo S131072x64 v5 broadcasts_S131072x1_S131072x64)) (broadcast S131072x64 (Scalar.ofBits .f32 0x3EE66666#32)))
    (broadcast S131072x64 (Scalar.ofBits .f32 0x00000000#32))

theorem scores_apply (v0 : Vec Ideal S131072x128 .fp8e4m3) (v2 : Vec Ideal S64x128 .bf16) (v5 : Vec Ideal S131072x1 .f32)
    (scale : (⟨1, ![131072]⟩ : Shape).Idx → EReal) (h : ∀ c, v5 (ix2 c 0) = scale (ix1 c)) (c : Fin 131072) (n : Fin 64) :
    scores v0 v2 v5 (ix2 c n) = score v2 v0 scale c n := by
  have e : (matmul dot_S131072x128_S64x128_S131072x64_1_1_0_0_n_n none (φ₁ := .bf16) (φ₂ := .bf16) v0 v2 (constant S131072x64 .f32 0x00000000#32)
        : FVec Ideal S131072x64 .f32) (ix2 c n)
      = (constant S131072x64 .f32 0x00000000#32 : FVec Ideal S131072x64 .f32) (ix2 c n) + ∑ k : Fin 128, v0 (ix2 c k) * v2 (ix2 n k) :=
    Ideal.matmul_transposedRhs_apply (M := 131072) (K := 128) (N := 64) (φ₁ := .bf16) (φ₂ := .bf16) none v0 v2 (constant S131072x64 .f32 0x00000000#32) c n
  have z : (constant S131072x64 .f32 0x00000000#32 : FVec Ideal S131072x64 .f32) (ix2 c n) = 0 := Ideal.ofBits_zero_f32
  have b : broadcastTo S131072x64 v5 broadcasts_S131072x1_S131072x64 (ix2 c n) = v5 (ix2 c 0) := by pointwise
  have u (a b : FVec Ideal S131072x64 .f32) : maximumf (subf (mulf a b) (broadcast S131072x64 (Scalar.ofBits .f32 0x3EE66666#32)))
      (broadcast S131072x64 (Scalar.ofBits .f32 0x00000000#32)) (ix2 c n)
      = max (a (ix2 c n) * b (ix2 c n) - Ideal.ofBits .f32 0x3EE66666#32) (Ideal.ofBits .f32 0x00000000#32) := rfl
  rw [z, zero_add] at e
  rw [scores, u, e, b, h, Ideal.ofBits_zero_f32, score]

/-- The selection matrix the body multiplies the scores with: one where the row's place is the column. -/
def selection (v14 : Vec Ideal S64x1 .i32) : FVec Ideal S64x64 .f32 :=
  select (cmpi .eq (broadcastTo S64x64 v14 broadcasts_S64x1_S64x64) (iota .tc S64x64 32 [1] iota_S64x64_d1_w32))
    (broadcast S64x64 (Scalar.ofBits (F := Ideal) .f32 0x3F800000#32)) (broadcast S64x64 (Scalar.ofBits (F := Ideal) .f32 0x00000000#32))

theorem selection_apply (q : Queries) (v14 : Vec Ideal S64x1 .i32) (h : ∀ n, v14 (ix2 n 0) = BitVec.ofNat 32 (place q n)) (n p : Fin 64) :
    selection v14 (ix2 n p) = if place q n = p.val then 1 else 0 := by
  unfold selection
  pointwise
  rw [h, eq_index ⟨place q n, place_lt q n⟩ p]
  split <;> rfl

/-- The scores in the order of the places. -/
def ordered (v0 : Vec Ideal S131072x128 .fp8e4m3) (v2 : Vec Ideal S64x128 .bf16) (v5 : Vec Ideal S131072x1 .f32) (v14 : Vec Ideal S64x1 .i32) :
    FVec Ideal S131072x64 .f32 :=
  matmul dot_S131072x64_S64x64_S131072x64_1_0_0_1_n_n none (φ₁ := .f32) (φ₂ := .f32) (scores v0 v2 v5) (selection v14) (constant S131072x64 .f32 0x00000000#32)

theorem ordered_apply (v0 : Vec Ideal S131072x128 .fp8e4m3) (v2 : Vec Ideal S64x128 .bf16) (v5 : Vec Ideal S131072x1 .f32) (v14 : Vec Ideal S64x1 .i32)
    (scale : Scales) (h : ∀ c, v5 (ix2 c 0) = scale (ix1 c)) (h' : ∀ n, v14 (ix2 n 0) = BitVec.ofNat 32 (place v2 n)) (c : Fin 131072) (p : Fin 64) :
    ordered v0 v2 v5 v14 (ix2 c p) = score v2 v0 scale c (placed v2 p) := by
  have z : (constant S131072x64 .f32 0x00000000#32 : FVec Ideal S131072x64 .f32) = fun _ => 0 := funext fun _ => Ideal.ofBits_zero_f32
  unfold ordered
  rw [z]
  refine (Ideal.matmul_plain_apply (M := 131072) (K := 64) (N := 64) (φ₁ := .f32) (φ₂ := .f32) none (scores v0 v2 v5) (selection v14)
    (fun _ => (0 : EReal) : FVec Ideal S131072x64 .f32) c p).trans ?_
  refine (zero_add _).trans ?_
  refine Eq.trans (Finset.sum_congr rfl fun n _ => ?_) (sum_place v2 p fun n => score v2 v0 scale c n)
  show scores v0 v2 v5 (ix2 c n) * selection v14 (ix2 n p) = _
  rw [scores_apply v0 v2 v5 scale h, selection_apply v2 v14 h']
  split
  · exact mul_one _
  · exact mul_zero _

theorem matrix_eq (v0 : Vec Ideal S131072x128 .fp8e4m3) (v2 : Vec Ideal S64x128 .bf16) (v5 : Vec Ideal S131072x1 .f32) (v14 : Vec Ideal S64x1 .i32) :
    k0_pay2 v0 v2 v5 v14 = ordered v0 v2 v5 v14 := by
  unfold k0_pay2 ordered scores selection
  dsimp only
  rw [shapeCast_self, shapeCast_self, shapeCast_self]
  rfl

theorem payload_eq (v0 : Vec Ideal S131072x128 .fp8e4m3) (v2 : Vec Ideal S64x128 .bf16) (v5 : Vec Ideal S131072x1 .f32) (v14 : Vec Ideal S64x1 .i32) :
    k0_pay3 v0 v2 v5 v14 = concatenate S65536x128 1
      [⟨S65536x64, extractStridedSlice S65536x64 ![0, 0] (ordered v0 v2 v5 v14) slices_S131072x64_o0_0_S65536x64⟩,
        ⟨S65536x64, extractStridedSlice S65536x64 ![65536, 0] (ordered v0 v2 v5 v14) slices_S131072x64_o65536_0_S65536x64⟩]
      concatenates_S65536x64_S65536x64_S65536x128_d1 := by
  unfold k0_pay3
  dsimp only
  rw [matrix_eq]

/-- The body's payload is the table of what it loads. -/
theorem payload_table (v0 : Vec Ideal S131072x128 .fp8e4m3) (v2 : Vec Ideal S64x128 .bf16) (v5 : Vec Ideal S131072x1 .f32) (v14 : Vec Ideal S64x1 .i32)
    (scale : Scales) (h : ∀ c, v5 (ix2 c 0) = scale (ix1 c)) (h' : ∀ n, v14 (ix2 n 0) = BitVec.ofNat 32 (place v2 n)) :
    k0_pay3 v0 v2 v5 v14 = table v2 v0 scale := by
  funext x
  obtain ⟨i, l, rfl⟩ : ∃ (i : Fin 65536) (l : Fin 128), x = ix2 i l := ⟨x 0, x 1, eq_ix2 x⟩
  have e : table v2 v0 scale (ix2 i l) = score v2 v0 scale (centroid i l) (placed v2 (lane l)) := rfl
  rw [payload_eq, e, ← ordered_apply v0 v2 v5 v14 scale h h']
  by_cases hl : l.val < 64
  · have hq : lane l = ⟨l.val, hl⟩ := Fin.ext (Nat.mod_eq_of_lt hl)
    refine (concatenate_pair_apply_left (t := S65536x128) (s₁ := S65536x64) (s₂ := S65536x64) 1 _ _ _ (ix2 i l) rfl
      (ix2 i (lane l)) (by rw [hq]; intro b; fin_cases b <;> rfl)).trans ?_
    refine extractStridedSlice_apply (s := S131072x64) (t := S65536x64) ![0, 0] _ _ (ix2 i (lane l)) (ix2 (centroid i l) (lane l)) fun a => ?_
    fin_cases a
    · exact (if_pos hl).trans (Nat.zero_add _).symm
    · exact (Nat.zero_add _).symm
  · have hq : (lane l).val = l.val - 64 := by show l.val % 64 = _; omega
    refine (concatenate_pair_apply_right (t := S65536x128) (s₁ := S65536x64) (s₂ := S65536x64) 1 _ _ _ (ix2 i l) rfl rfl
      (ix2 i (lane l)) (by
        intro b hb
        fin_cases b
        · rfl
        · exact absurd rfl hb)
      (by show (lane l).val + 64 = l.val; omega)).trans ?_
    refine extractStridedSlice_apply (s := S131072x64) (t := S65536x64) ![65536, 0] _ _ (ix2 i (lane l)) (ix2 (centroid i l) (lane l)) fun a => ?_
    fin_cases a
    · exact if_neg hl
    · exact (Nat.zero_add _).symm

/-! ## The words of marks -/

/-- How many of the 32 columns of each centroid have a score, as the body lays the centroids out for the words. -/
def counts (x : FVec Ideal S131072x32 .f32) : FVec Ideal S16x8192 .f32 :=
  shapeCast S16x8192 (multiReduction .add [1] S131072 (select (cmpf .one x (broadcast S131072x32 (Scalar.ofBits (F := Ideal) .f32 0x00000000#32)))
      (broadcast S131072x32 (Scalar.ofBits (F := Ideal) .f32 0x3F800000#32)) (broadcast S131072x32 (Scalar.ofBits (F := Ideal) .f32 0x00000000#32)))
    0x00000000#32 reduces_S131072x32_S131072 (.inl rfl) rfl) shapeCasts_S131072_S16x8192

/-- Which centroids have one. -/
def hits (x : FVec Ideal S131072x32 .f32) : IVec S16x8192 1 :=
  cmpf .ogt (counts x) (broadcast S16x8192 (Scalar.ofBits (F := Ideal) .f32 0x00000000#32))

theorem row_sum (y : FVec Ideal S131072x32 .f32) (c : Fin 131072) :
    multiReduction .add [1] S131072 y 0x00000000#32 reduces_S131072x32_S131072 (.inl rfl) rfl (ix1 c) = ∑ l : Fin 32, y (ix2 c l) := by
  pointwise

open Classical in
theorem counts_apply (x : FVec Ideal S131072x32 .f32) (a : Fin 16) (w : Fin 8192) (c : Fin 131072) (hc : c.val = 8192 * a.val + w.val) :
    counts x (ix2 a w) = ∑ l : Fin 32, if x (ix2 c l) ≠ 0 then (1 : EReal) else 0 := by
  have z : (FloatOps.ofBits .f32 0x00000000#32 : Ideal .f32) = 0 := Ideal.ofBits_zero_f32
  have o : (FloatOps.ofBits .f32 0x3F800000#32 : Ideal .f32) = 1 := Ideal.ofBits_one_f32
  unfold counts
  refine (shapeCast_apply (s := S131072) (t := S16x8192) _ _ (ix2 a w) (ix1 c) (by
    rw [Shape.rowMajor_val_one, Shape.rowMajor_val_two]
    show c.val = a.val * 8192 + w.val
    omega)).trans ?_
  refine (row_sum _ c).trans (Finset.sum_congr rfl fun l _ => ?_)
  show Scalar.select (Ideal.cmp .one (x (ix2 c l)) (FloatOps.ofBits .f32 0x00000000#32 : Ideal .f32)) (FloatOps.ofBits .f32 0x3F800000#32 : Ideal .f32)
    (FloatOps.ofBits .f32 0x00000000#32 : Ideal .f32) = _
  rw [z, o]
  exact one_word _

open Classical in
theorem hits_apply (x : FVec Ideal S131072x32 .f32) (a : Fin 16) (w : Fin 8192) (c : Fin 131072) (hc : c.val = 8192 * a.val + w.val) :
    hits x (ix2 a w) = if ∃ l : Fin 32, x (ix2 c l) ≠ 0 then 1#1 else 0#1 := by
  have z : (FloatOps.ofBits .f32 0x00000000#32 : Ideal .f32) = 0 := Ideal.ofBits_zero_f32
  have u (y : FVec Ideal S16x8192 .f32) : cmpf .ogt y (broadcast S16x8192 (Scalar.ofBits (F := Ideal) .f32 0x00000000#32)) (ix2 a w)
      = Ideal.cmp .ogt (y (ix2 a w)) (FloatOps.ofBits .f32 0x00000000#32 : Ideal .f32) := rfl
  rw [hits, u, z, counts_apply x a w c hc]
  show BitVec.ofBool (decide ((0 : EReal) < ∑ l : Fin 32, if x (ix2 c l) ≠ 0 then (1 : EReal) else 0)) = _
  have hp : (0 : EReal) < ∑ l : Fin 32, (if x (ix2 c l) ≠ 0 then (1 : EReal) else 0) ↔ ∃ l : Fin 32, x (ix2 c l) ≠ 0 := by
    convert sum_pos_iff fun l : Fin 32 => x (ix2 c l) ≠ 0
  by_cases h : ∃ l : Fin 32, x (ix2 c l) ≠ 0
  · rw [if_pos h]
    exact congrArg BitVec.ofBool (decide_eq_true (hp.2 h))
  · rw [if_neg h]
    exact congrArg BitVec.ofBool (decide_eq_false fun t => h (hp.1 t))

/-- The words of one group of columns: the sum of the bits of the centroids that have a score there. -/
def wordsOf (h : IVec S16x8192 1) (g : BitVec 32) : IVec S1x8192 32 :=
  shapeCast S1x8192 (multiReductionI .add [0] S8192 (select h
      (shli (broadcast S16x8192 1#32) (addi (muli (broadcast S16x8192 2#32) (iota .tc S16x8192 32 [0] iota_S16x8192_d0_w32)) (broadcast S16x8192 g)))
      (broadcast S16x8192 0#32)) 0#32 reduces_S16x8192_S8192 rfl) shapeCasts_S8192_S1x8192

theorem column_sum (src : IVec S16x8192 32) (w : Fin 8192) :
    multiReductionI .add [0] S8192 src 0#32 reduces_S16x8192_S8192 rfl (ix1 w) = ∑ a : Fin 16, src (ix2 a w) := by
  refine (multiReductionI_eq_fold .add src 0#32 reduces_S16x8192_S8192 rfl (ix1 w)).trans ?_
  rw [reduces_S16x8192_S8192.fold_fiber_r2_a0]
  exact (fold_addi _ _ _).trans (zero_add _)

theorem shift_words : ∀ (a : Fin 16) (g : Fin 2),
    IntOp.shli .vector 1#32 (IntOp.addi (IntOp.muli 2#32 (BitVec.ofNat 32 a.val)) (BitVec.ofNat 32 g.val)) = 1#32 <<< (2 * a.val + g.val) := by
  decide +kernel

theorem wordsOf_apply (h : IVec S16x8192 1) (g : Fin 2) (w : Fin 8192) : wordsOf h (BitVec.ofNat 32 g.val) (ix2 0 w)
    = ∑ a : Fin 16, Scalar.select (h (ix2 a w)) (1#32 <<< (2 * a.val + g.val)) 0#32 := by
  unfold wordsOf
  refine (shapeCast_apply (s := S8192) (t := S1x8192) _ _ (ix2 0 w) (ix1 w) (by
    rw [Shape.rowMajor_val_one, Shape.rowMajor_val_two]
    show w.val = 0 * 8192 + w.val
    omega)).trans ?_
  refine (column_sum _ w).trans (Finset.sum_congr rfl fun a _ => ?_)
  have i0 : iota .tc S16x8192 32 [0] iota_S16x8192_d0_w32 (ix2 a w) = BitVec.ofNat 32 a.val := by pointwise
  rw [← shift_words, ← i0]
  rfl

theorem words_eq (v0 : Vec Ideal S131072x128 .fp8e4m3) (v2 : Vec Ideal S64x128 .bf16) (v5 : Vec Ideal S131072x1 .f32) (v14 : Vec Ideal S64x1 .i32) :
    k0_pay1 (k0_pay2 v0 v2 v5 v14) (iota .tc S16x8192 32 [0] iota_S16x8192_d0_w32) (k0_pay4 v0 v2 v5 v14) 2#32
      = addi (wordsOf (hits (extractStridedSlice S131072x32 ![0, 0] (ordered v0 v2 v5 v14) slices_S131072x64_o0_0_S131072x32)) 0#32)
        (wordsOf (hits (extractStridedSlice S131072x32 ![0, 32] (ordered v0 v2 v5 v14) slices_S131072x64_o0_32_S131072x32)) 1#32) := by
  unfold k0_pay4
  dsimp only
  rw [matrix_eq]
  generalize ordered v0 v2 v5 v14 = y
  unfold k0_pay1 wordsOf hits counts
  rfl

/-- A group of columns of the ordered scores marks what the words of marks say. -/
theorem group_apply (y : FVec Ideal S131072x64 .f32) (q : Queries) (codes : Codes) (scale : Scales) (w : Fin 8192) (g : Fin 2)
    (h : ∀ c p, y (ix2 c p) = score q codes scale c (placed q p)) (x : FVec Ideal S131072x32 .f32)
    (hx : ∀ (c : Fin 131072) (l : Fin 32), x (ix2 c l) = y (ix2 c ⟨32 * g.val + l.val, by omega⟩)) :
    wordsOf (hits x) (BitVec.ofNat 32 g.val) (ix2 0 w) = ∑ a : Fin 16, mark q codes scale w a.val g.val := by
  classical
  rw [wordsOf_apply]
  refine Finset.sum_congr rfl fun a _ => ?_
  have ha := a.isLt
  have hw := w.isLt
  have hg := g.isLt
  have hc : 8192 * a.val + w.val < 131072 := by omega
  rw [hits_apply x a w ⟨8192 * a.val + w.val, hc⟩ rfl]
  have e : (∃ l : Fin 32, x (ix2 ⟨8192 * a.val + w.val, hc⟩ l) ≠ 0) ↔ Hit q codes scale w a.val g.val := by
    unfold Hit
    refine exists_congr fun l => ?_
    have hl := l.isLt
    rw [hx, h]
    have e1 : (⟨(8192 * a.val + w.val) % 131072, Nat.mod_lt _ (by decide)⟩ : Fin 131072) = ⟨8192 * a.val + w.val, hc⟩ := Fin.ext (Nat.mod_eq_of_lt hc)
    have e2 : (⟨(32 * g.val + l.val) % 64, Nat.mod_lt _ (by decide)⟩ : Fin 64) = ⟨32 * g.val + l.val, by omega⟩ := Fin.ext (Nat.mod_eq_of_lt (by omega))
    rw [e1, e2]
  unfold mark
  by_cases t : Hit q codes scale w a.val g.val
  · rw [if_pos t, if_pos (e.2 t)]
    rfl
  · rw [if_neg t, if_neg fun u => t (e.1 u)]
    rfl

/-- The body's second payload is the words of marks of what it loads. -/
theorem payload_bits (v0 : Vec Ideal S131072x128 .fp8e4m3) (v2 : Vec Ideal S64x128 .bf16) (v5 : Vec Ideal S131072x1 .f32) (v14 : Vec Ideal S64x1 .i32)
    (scale : Scales) (h : ∀ c, v5 (ix2 c 0) = scale (ix1 c)) (h' : ∀ n, v14 (ix2 n 0) = BitVec.ofNat 32 (place v2 n)) :
    k0_pay1 (k0_pay2 v0 v2 v5 v14) (iota .tc S16x8192 32 [0] iota_S16x8192_d0_w32) (k0_pay4 v0 v2 v5 v14) 2#32 = bits v2 v0 scale := by
  rw [words_eq]
  have hy := ordered_apply v0 v2 v5 v14 scale h h'
  generalize ordered v0 v2 v5 v14 = y at hy ⊢
  funext x
  obtain ⟨i, w, rfl⟩ : ∃ (i : Fin 1) (w : Fin 8192), x = ix2 i w := ⟨x 0, x 1, eq_ix2 x⟩
  obtain rfl : i = 0 := Subsingleton.elim _ _
  have g0 := group_apply y v2 v0 scale w 0 hy (extractStridedSlice S131072x32 ![0, 0] y slices_S131072x64_o0_0_S131072x32) fun c l => by
    refine extractStridedSlice_apply (s := S131072x64) (t := S131072x32) ![0, 0] _ _ (ix2 c l) _ fun a => ?_
    fin_cases a
    · exact (Nat.zero_add _).symm
    · rfl
  have g1 := group_apply y v2 v0 scale w 1 hy (extractStridedSlice S131072x32 ![0, 32] y slices_S131072x64_o0_32_S131072x32) fun c l => by
    refine extractStridedSlice_apply (s := S131072x64) (t := S131072x32) ![0, 32] _ _ (ix2 c l) _ fun a => ?_
    fin_cases a
    · exact (Nat.zero_add _).symm
    · rfl
  have u (a b : IVec S1x8192 32) : addi a b (ix2 0 w) = a (ix2 0 w) + b (ix2 0 w) := rfl
  have e : bits v2 v0 scale (ix2 0 w) = (∑ a : Fin 16, mark v2 v0 scale w a.val 0) + ∑ a : Fin 16, mark v2 v0 scale w a.val 1 := rfl
  rw [u, e]
  exact congrArg₂ (fun a b : BitVec 32 => a + b) g0 g1

/-! ## The host -/

/-- The squared lengths, as the host computes them. -/
def norms (q : Vec Ideal S64x128 .bf16) : FVec Ideal S64 .f32 :=
  Host.reduceAdd (mulf (extf .f32 q bitsLt_bf16_f32) (extf .f32 q bitsLt_bf16_f32)) (constant S_ .f32 0x00000000#32) reducesTo_S64x128_S64_d1 h_S_

theorem norms_apply (q : Vec Ideal S64x128 .bf16) (n : Fin 64) : norms q (ix1 n) = norm q n := by
  unfold norms
  pointwise
  rfl

/-- Which query stands before which, as the host computes it. -/
def mask (q : Vec Ideal S64x128 .bf16) : IVec S64x64 1 :=
  ori (cmpf .ogt (broadcastInDim S64x64 ![0, 1] bcast_S64x1_S64x64_0_1 (broadcastInDim S64x1 ![0] bcast_S64_S64x1_0 (norms q)))
      (broadcastInDim S64x64 ![0, 1] bcast_S1x64_S64x64_0_1 (broadcastInDim S1x64 ![1] bcast_S64_S1x64_1 (norms q))))
    (andi (cmpf .oeq (broadcastInDim S64x64 ![0, 1] bcast_S64x1_S64x64_0_1 (broadcastInDim S64x1 ![0] bcast_S64_S64x1_0 (norms q)))
        (broadcastInDim S64x64 ![0, 1] bcast_S1x64_S64x64_0_1 (broadcastInDim S1x64 ![1] bcast_S64_S1x64_1 (norms q))))
      (cmpi .slt (broadcastInDim S64x64 ![0, 1] bcast_S64x1_S64x64_0_1 (broadcastInDim S64x1 ![0] bcast_S64_S64x1_0 (iotaInDim S64 32 0)))
        (broadcastInDim S64x64 ![0, 1] bcast_S1x64_S64x64_0_1 (broadcastInDim S1x64 ![1] bcast_S64_S1x64_1 (iotaInDim S64 32 0)))))

open Classical in
theorem mask_apply (q : Vec Ideal S64x128 .bf16) (a b : Fin 64) : mask q (ix2 a b) = if Before q a b then 1#1 else 0#1 := by
  have e : mask q (ix2 a b) = IntOp.ori (Ideal.cmp .ogt (norms q (ix1 a)) (norms q (ix1 b)))
      (IntOp.andi (Ideal.cmp .oeq (norms q (ix1 a)) (norms q (ix1 b))) (IntOp.cmpi .slt (BitVec.ofNat 32 a.val) (BitVec.ofNat 32 b.val))) := by
    unfold mask
    pointwise
    rfl
  rw [e, norms_apply, norms_apply, before_words]

/-- The places, as the host counts them. -/
def places (q : Vec Ideal S64x128 .bf16) : IVec S64 32 :=
  Host.reduce IntOp.addi (extui 32 (mask q) natLt_1_32) (constantI S_ 32 0#32) reducesTo_S64x64_S64_d0 h_S_

theorem places_apply (q : Vec Ideal S64x128 .bf16) (n : Fin 64) : places q (ix1 n) = BitVec.ofNat 32 (place q n) := by
  classical
  refine BitVec.eq_of_toNat_eq ?_
  rw [BitVec.toNat_ofNat, Nat.mod_eq_of_lt ((place_lt q n).trans (by decide))]
  refine (StableHlo.Predicate.toNat_reduce_count_rows (by decide) (mask q) natLt_1_32 reducesTo_S64x64_S64_d0 h_S_ (ix1 n)).trans ?_
  unfold place
  refine congrArg Finset.card (Finset.filter_congr fun p _ => ?_)
  have e : mask q (StableHlo.Predicate.ij p n) = if Before q p n then 1#1 else 0#1 := by
    rw [← mask_apply q p n]
    exact congrArg (mask q) (funext fun a => by fin_cases a <;> rfl)
  show mask q (StableHlo.Predicate.ij p n) = 1#1 ↔ _
  rw [e]
  by_cases h : Before q p n
  · simp [h]
  · simp [h]

variable (m : (ℓ : Loc nD τ sig) → Buf (Elt Ideal) ℓ) (ρ : Dev nD → PrngReg)

/-- The queries as the region finds them: the first argument with its two leading axes as one. -/
def queries (c : Dev nD) : Vec Ideal S64x128 .bf16 :=
  shapeCast S64x128 (m ((c : Thread nD τ).loc main_arg0) : Vec Ideal S2x32x128 .bf16) shapeCasts_S2x32x128_S64x128

/-- The table of device `c`'s arguments. -/
def result (c : Dev nD) : Vec Ideal S65536x128 .f32 :=
  table (queries m c) (m ((c : Thread nD τ).loc main_arg1)) (m ((c : Thread nD τ).loc main_arg2))

/-- The words of marks of device `c`'s arguments. -/
def marks (c : Dev nD) : Vec Ideal S1x8192 .i32 :=
  bits (queries m c) (m ((c : Thread nD τ).loc main_arg1)) (m ((c : Thread nD τ).loc main_arg2))

/-- The table of cuts of device `c`'s arguments. -/
def parts (c : Dev nD) : Vec Ideal S8x128 .i32 :=
  cutTable (queries m c) (m ((c : Thread nD τ).loc main_arg3))

theorem V_main_v0 (c : Dev nD) : V m c main_v0 = queries m c := by
  show StableHlo.after (List.flatten [hostOps0, hostOps0_1, hostOps0_2, hostOps0_3, hostOps0_4, hostOps0_5, hostOps0_6, hostOps0_7, hostOps0_8, hostOps0_9]) _ (Proc.devRef .tc main_v0) = _
  simp only [hostOps0, hostOps0_1, hostOps0_2, hostOps0_3, hostOps0_4, hostOps0_5, hostOps0_6, hostOps0_7, hostOps0_8, hostOps0_9, List.flatten_cons, List.flatten_nil,
    List.append_nil, List.cons_append, List.nil_append]
  after_results
  rfl

/-- The scales as a column. -/
theorem scales_apply (c : Dev nD) (i : Fin 131072) :
    (V m c main_v65 : Vec Ideal S131072x1 .f32) (ix2 i 0) = (m ((c : Thread nD τ).loc main_arg2) : Vec Ideal S131072 .f32) (ix1 i) := by
  have h : V m c main_v65 = shapeCast S131072x1 (m ((c : Thread nD τ).loc main_arg2) : Vec Ideal S131072 .f32) shapeCasts_S131072_S131072x1 := by
    show StableHlo.after (List.flatten [hostOps0, hostOps0_1, hostOps0_2, hostOps0_3, hostOps0_4, hostOps0_5, hostOps0_6, hostOps0_7, hostOps0_8, hostOps0_9]) _ (Proc.devRef .tc main_v65) = _
    simp only [hostOps0, hostOps0_1, hostOps0_2, hostOps0_3, hostOps0_4, hostOps0_5, hostOps0_6, hostOps0_7, hostOps0_8, hostOps0_9, List.flatten_cons, List.flatten_nil,
      List.append_nil, List.cons_append, List.nil_append]
    after_results
    rfl
  rw [h]
  refine shapeCast_apply (s := S131072) (t := S131072x1) _ _ (ix2 i 0) (ix1 i) ?_
  rw [Shape.rowMajor_val_one, Shape.rowMajor_val_two]
  show i.val = i.val * 1 + 0
  omega

/-- The places as a column. -/
theorem column_apply (c : Dev nD) (n : Fin 64) :
    (V m c main_v66 : Vec Ideal S64x1 .i32) (ix2 n 0) = BitVec.ofNat 32 (place (queries m c) n) := by
  have h : V m c main_v66 = shapeCast S64x1 (places (queries m c)) shapeCasts_S64_S64x1 := by
    show StableHlo.after (List.flatten [hostOps0, hostOps0_1, hostOps0_2, hostOps0_3, hostOps0_4, hostOps0_5, hostOps0_6, hostOps0_7, hostOps0_8, hostOps0_9]) _ (Proc.devRef .tc main_v66) = _
    simp only [hostOps0, hostOps0_1, hostOps0_2, hostOps0_3, hostOps0_4, hostOps0_5, hostOps0_6, hostOps0_7, hostOps0_8, hostOps0_9, List.flatten_cons, List.flatten_nil,
      List.append_nil, List.cons_append, List.nil_append]
    after_results
    rfl
  rw [h, ← places_apply]
  refine shapeCast_apply (s := S64) (t := S64x1) _ _ (ix2 n 0) (ix1 n) ?_
  rw [Shape.rowMajor_val_one, Shape.rowMajor_val_two]
  show n.val = n.val * 1 + 0
  omega

set_option maxRecDepth 20000 in
/-- The table of cuts the host leaves. -/
theorem V_main_v64 (c : Dev nD) : V m c main_v64 = parts m c := by
  have h : V m c main_v64 = partsOf (places (queries m c)) (m ((c : Thread nD τ).loc main_arg3)) := by
    show StableHlo.after (List.flatten [hostOps0, hostOps0_1, hostOps0_2, hostOps0_3, hostOps0_4, hostOps0_5, hostOps0_6, hostOps0_7, hostOps0_8, hostOps0_9]) _ (Proc.devRef .tc main_v64) = _
    simp only [hostOps0, hostOps0_1, hostOps0_2, hostOps0_3, hostOps0_4, hostOps0_5, hostOps0_6, hostOps0_7, hostOps0_8, hostOps0_9, List.flatten_cons, List.flatten_nil,
      List.append_nil, List.cons_append, List.nil_append]
    after_results
    simp -implicitDefEqProofs only [StableHlo.TRef.toBuf, StableHlo.TRef.ofBuf, cast_cast, cast_eq]
    unfold partsOf rowsOf cutsOf rowOf placedOf belowOf places mask norms queries
    rfl
  rw [h]
  exact partsOf_eq (queries m c) _ (places_apply (queries m c)) _

/-- The one grid point. -/
def t₀ : Fin cfg0.N := ⟨0, by decide⟩

theorem final (c : Dev nD) : (dats m 0 c).arrAt 4 cfg0.N = result m c := by
  have ho := Value.blocks4 m c t₀ (by decide)
  have hz4 : (fun a => (win0_4.index t₀) a * main_v67_0.ty.shape.size a) = fun _ => 0 := funext fun a => by fin_cases a <;> decide
  have hr4 := fun f => Memref.read_access_unit_zero (Elt Ideal) main_v67_0 hz4 (fun a => by fin_cases a <;> decide) f
  have hz0 : (fun a => (win0_0.index t₀) a * main_arg1.ty.shape.size a) = fun _ => 0 := funext fun a => by fin_cases a <;> decide
  have hr0 := fun f => Memref.read_access_unit_zero (Elt Ideal) main_arg1 hz0 (fun a => by fin_cases a <;> decide) f
  have hz1 : (fun a => (win0_1.index t₀) a * main_v65.ty.shape.size a) = fun _ => 0 := funext fun a => by fin_cases a <;> decide
  have hr1 := fun f => Memref.read_access_unit_zero (Elt Ideal) main_v65 hz1 (fun a => by fin_cases a <;> decide) f
  have hz2 : (fun a => (win0_2.index t₀) a * main_v0.ty.shape.size a) = fun _ => 0 := funext fun a => by fin_cases a <;> decide
  have hr2 := fun f => Memref.read_access_unit_zero (Elt Ideal) main_v0 hz2 (fun a => by fin_cases a <;> decide) f
  have hz3 : (fun a => (win0_3.index t₀) a * main_v66.ty.shape.size a) = fun _ => 0 := funext fun a => by fin_cases a <;> decide
  have hr3 := fun f => Memref.read_access_unit_zero (Elt Ideal) main_v66 hz3 (fun a => by fin_cases a <;> decide) f
  have i0 : iblk m c 0 t₀ = V m c main_arg1 := hr0 _
  have i1 : iblk m c 1 t₀ = V m c main_v65 := hr1 _
  have i2 : iblk m c 2 t₀ = V m c main_v0 := hr2 _
  have i3 : iblk m c 3 t₀ = V m c main_v66 := hr3 _
  have z : (![0, 0] : Fin 2 → Nat) = fun _ => 0 := funext fun a => by fin_cases a <;> rfl
  rw [hr4, Value.flushed4, i0, i1, i2, i3] at ho
  rw [ho]
  show out0_4 _ _ _ _ = _
  unfold out0_4
  rw [View.canon_unit_zero z, View.ld_unit_zero z, View.ld_unit_zero z, View.ld_unit_zero z, View.ld_unit_zero z,
    V_main_v0, payload_table _ _ _ _ _ (scales_apply m c) (column_apply m c), V_main_arg1]
  rfl

theorem final_marks (c : Dev nD) : (dats m 0 c).arrAt 5 cfg0.N = marks m c := by
  have ho := Value.blocks5 m c t₀ (by decide)
  have hz5 : (fun a => (win0_5.index t₀) a * main_v67_1.ty.shape.size a) = fun _ => 0 := funext fun a => by fin_cases a <;> decide
  have hr5 := fun f => Memref.read_access_unit_zero (Elt Ideal) main_v67_1 hz5 (fun a => by fin_cases a <;> decide) f
  have hz0 : (fun a => (win0_0.index t₀) a * main_arg1.ty.shape.size a) = fun _ => 0 := funext fun a => by fin_cases a <;> decide
  have hr0 := fun f => Memref.read_access_unit_zero (Elt Ideal) main_arg1 hz0 (fun a => by fin_cases a <;> decide) f
  have hz1 : (fun a => (win0_1.index t₀) a * main_v65.ty.shape.size a) = fun _ => 0 := funext fun a => by fin_cases a <;> decide
  have hr1 := fun f => Memref.read_access_unit_zero (Elt Ideal) main_v65 hz1 (fun a => by fin_cases a <;> decide) f
  have hz2 : (fun a => (win0_2.index t₀) a * main_v0.ty.shape.size a) = fun _ => 0 := funext fun a => by fin_cases a <;> decide
  have hr2 := fun f => Memref.read_access_unit_zero (Elt Ideal) main_v0 hz2 (fun a => by fin_cases a <;> decide) f
  have hz3 : (fun a => (win0_3.index t₀) a * main_v66.ty.shape.size a) = fun _ => 0 := funext fun a => by fin_cases a <;> decide
  have hr3 := fun f => Memref.read_access_unit_zero (Elt Ideal) main_v66 hz3 (fun a => by fin_cases a <;> decide) f
  have i0 : iblk m c 0 t₀ = V m c main_arg1 := hr0 _
  have i1 : iblk m c 1 t₀ = V m c main_v65 := hr1 _
  have i2 : iblk m c 2 t₀ = V m c main_v0 := hr2 _
  have i3 : iblk m c 3 t₀ = V m c main_v66 := hr3 _
  have z : (![0, 0] : Fin 2 → Nat) = fun _ => 0 := funext fun a => by fin_cases a <;> rfl
  rw [hr5, Value.flushed5, i0, i1, i2, i3] at ho
  rw [ho]
  show out0_5 _ _ _ _ = _
  unfold out0_5
  rw [View.canon_unit_zero z, View.ld_unit_zero z, View.ld_unit_zero z, View.ld_unit_zero z, View.ld_unit_zero z,
    V_main_v0, payload_bits _ _ _ _ _ (scales_apply m c) (column_apply m c), V_main_arg1]
  rfl

/-- The run: the three result arrays end holding the table, the words and the cuts, the arguments unchanged. -/
theorem run : θ_run defs (onTc (τ := τ) (main (F := Ideal))) ⟨m, fun _ => 0, ρ⟩ fun r => ∀ c : Dev nD,
      r.2.mem ((c : Thread nD τ).loc main_v67_0) = result m c
      ∧ r.2.mem ((c : Thread nD τ).loc main_v67_1) = marks m c
      ∧ r.2.mem ((c : Thread nD τ).loc main_v64) = parts m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post4 m r h c).trans (final m c), (Value.post5 m r h c).trans (final_marks m c),
    ((h c).2 main_v64 (Pipeline.mem_restRefs_of main_v64 (by decide) (by decide))).trans (V_main_v64 m c), Value.kept_main_arg0 m r h c,
    Value.kept_main_arg1 m r h c, Value.kept_main_arg2 m r h c, Value.kept_main_arg3 m r h c⟩) (run_main m ρ)

end Cert.Table.Reference
end
-- ==== Proof.lean ====
/-
  The claim: the two calls and their references run with nothing changed but their results, and each call's results are
  its reference's. For both calls the shared value is written down once (Proof/Table/Spec.lean, Proof/Outs/Spec.lean),
  and both programs are shown to end with it.
-/
module

public import proofs.«01_k».proof.Defs
public import proofs.«01_k».proof.Proof.Gen.Outputs
public import proofs.«01_k».proof.Proof.Gen.Outputs.Skeleton
public import proofs.«01_k».proof.Proof.Gen.Outputs.Launch
public import proofs.«01_k».proof.Proof.Gen.Outputs.Points
public import proofs.«01_k».proof.Proof.Gen.Outputs.Frame
public import proofs.«01_k».proof.Proof.Gen.OutputsIdeal
public import proofs.«01_k».proof.Proof.Gen.OutputsIdeal.Skeleton
public import proofs.«01_k».proof.Proof.Gen.OutputsIdeal.Launch
public import proofs.«01_k».proof.Proof.Gen.OutputsIdeal.Points
public import proofs.«01_k».proof.Proof.Gen.OutputsIdeal.Frame
public import proofs.«01_k».proof.Proof.Gen.OutputsIdeal.Run
public import proofs.«01_k».proof.Proof.Gen.OutputsRefIdeal
public import proofs.«01_k».proof.Proof.Gen.OutputsRefIdeal.Run
public import proofs.«01_k».proof.Proof.Gen.Tables
public import proofs.«01_k».proof.Proof.Gen.Tables.Skeleton
public import proofs.«01_k».proof.Proof.Gen.Tables.Launch
public import proofs.«01_k».proof.Proof.Gen.Tables.Points
public import proofs.«01_k».proof.Proof.Gen.Tables.Frame
public import proofs.«01_k».proof.Proof.Gen.TablesIdeal
public import proofs.«01_k».proof.Proof.Gen.TablesIdeal.Skeleton
public import proofs.«01_k».proof.Proof.Gen.TablesIdeal.Launch
public import proofs.«01_k».proof.Proof.Gen.TablesIdeal.Points
public import proofs.«01_k».proof.Proof.Gen.TablesIdeal.Frame
public import proofs.«01_k».proof.Proof.Gen.TablesRefIdeal
public import proofs.«01_k».proof.Proof.Gen.TablesRefIdeal.Skeleton
public import proofs.«01_k».proof.Proof.Gen.TablesRefIdeal.Launch
public import proofs.«01_k».proof.Proof.Gen.TablesRefIdeal.Points
public import proofs.«01_k».proof.Proof.Gen.TablesRefIdeal.Frame
public import proofs.«01_k».proof.Proof.Gen.TablesRefIdeal.Value
public import Idealize.ShloMosaic.Adequacy
public import Idealize.ShloMosaic.Init
public import proofs.«01_k».proof.Proof.Outs.Kernel
public import proofs.«01_k».proof.Proof.Outs.Reference
public import proofs.«01_k».proof.Proof.Table.Frame
public import proofs.«01_k».proof.Proof.TableBits.Frame
public import proofs.«01_k».proof.Proof.Table.Kernel
public import proofs.«01_k».proof.Proof.Table.Reference

@[expose] public section

noncomputable section

namespace Cert.Proof

open Idealize.ShloMosaic Idealize.SL.Sem

theorem algebraic_outputs : Cert.algebraic_OutputsIdeal_OutputsRefIdeal := by
  intro m ρ m' ρ' _ hagree
  have e (c) : Cert.Outs.Reference.flat m' c = Cert.Outs.Kernel.flat m c := hagree c
  refine ⟨fun c => Cert.Outs.scores (Cert.Outs.Kernel.flat m c), fun c => Cert.Outs.maxima (Cert.Outs.Kernel.flat m c),
    Cert.Outs.Kernel.run m ρ, ?_⟩
  exact (θ_run Cert.OutputsRefIdeal.defs _ _).mono
    (fun _ h c => ⟨(h c).1.trans (congrArg Cert.Outs.scores (e c)), (h c).2.1.trans (congrArg Cert.Outs.maxima (e c)), (h c).2.2⟩)
    (Cert.Outs.Reference.run m' ρ')

theorem algebraic_tables : Cert.algebraic_TablesIdeal_TablesRefIdeal := by
  intro m ρ m' ρ' _ hagree
  have eq (c) : Cert.Table.Reference.queries m' c = Cert.Table.Kernel.queries m c := by
    unfold Cert.Table.Reference.queries Cert.Table.Kernel.queries
    rw [(hagree c).1]
  have e (c) : Cert.Table.Reference.result m' c = Cert.Table.Kernel.result m c := by
    unfold Cert.Table.Reference.result Cert.Table.Kernel.result
    rw [eq, (hagree c).2.1, (hagree c).2.2.1]
  have e1 (c) : Cert.Table.Reference.marks m' c = Cert.Table.Kernel.marks m c := by
    unfold Cert.Table.Reference.marks Cert.Table.Kernel.marks
    rw [eq, (hagree c).2.1, (hagree c).2.2.1]
  have e2 (c) : Cert.Table.Reference.parts m' c = Cert.Table.Kernel.parts m c := by
    unfold Cert.Table.Reference.parts Cert.Table.Kernel.parts
    rw [eq, (hagree c).2.2.2]
  refine ⟨fun c => Cert.Table.Kernel.result m c, fun c => Cert.Table.Kernel.marks m c, fun c => Cert.Table.Kernel.parts m c, Cert.Table.Kernel.run m ρ, ?_⟩
  exact (θ_run Cert.TablesRefIdeal.defs _ _).mono
    (fun _ h c => ⟨(h c).1.trans (e c), (h c).2.1.trans (e1 c), (h c).2.2.1.trans (e2 c), (h c).2.2.2⟩) (Cert.Table.Reference.run m' ρ')

theorem claim : Cert.Claim :=
  ⟨Cert.Outputs.Gen.facts, Cert.OutputsIdeal.Gen.facts, Cert.OutputsRefIdeal.Gen.facts, Cert.Tables.Gen.facts, Cert.TablesIdeal.Gen.facts, Cert.TablesRefIdeal.Gen.facts,
    fun m ρ _ => Cert.Outputs.Gen.frame m ρ,
    fun m ρ _ => Cert.OutputsIdeal.Gen.frame m ρ,
    fun m ρ _ => Cert.Outs.Reference.frame m ρ,
    fun m ρ _ => Cert.TableBits.Run.frame m ρ,
    fun m ρ _ => Cert.Table.Run.frame m ρ,
    fun m ρ _ => Cert.TablesRefIdeal.Gen.frame m ρ,
    trivial, algebraic_outputs, trivial, algebraic_tables⟩

end Cert.Proof

end
